-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v105) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x768 : Shape := ⟨3, ![4, 8192, 768]⟩
abbrev S64x768 : Shape := ⟨2, ![64, 768]⟩
abbrev S64 : Shape := ⟨1, ![64]⟩
abbrev S_ : Shape := ⟨0, ![]⟩

class Facts : Prop where
  bcast_S_S4x8192x768 : S_.BroadcastsInDim S4x8192x768 (![] : Fin 0 → Fin S4x8192x768.rank)
  bcast_S_S64x768 : S_.BroadcastsInDim S64x768 (![] : Fin 0 → Fin S64x768.rank)
  bcast_S_S64 : S_.BroadcastsInDim S64 (![] : Fin 0 → Fin S64.rank)

variable [Facts]

def fn {F : FTy → Type} [FloatOps F] (main_arg0 : FVec F S4x8192x768 .f32) (main_arg1 : FVec F S64x768 .f32) (main_arg2 : FVec F S64 .f32) : IVec S4x8192x768 1 × IVec S64x768 1 × IVec S64 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_v3 : FVec F S64x768 .f32 := Host.absf main_arg1
  let main_cst_0 : FVec F S_ .f32 := constant S_ .f32 0x7F800000#32
  let main_v4 : FVec F S64x768 .f32 := broadcastInDim S64x768 ![] bcast_S_S64x768 main_cst_0
  let main_v5 : IVec S64x768 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Kernel.lean ====
abbrev S4x8192x768 : Shape := ⟨3, ![4, 8192, 768]⟩
abbrev S64x768 : Shape := ⟨2, ![64, 768]⟩
abbrev S64 : Shape := ⟨1, ![64]⟩
abbrev S128x128 : Shape := ⟨2, ![128, 128]⟩
abbrev S32768x768 : Shape := ⟨2, ![32768, 768]⟩
abbrev S64x1 : Shape := ⟨2, ![64, 1]⟩
abbrev S2x32768 : Shape := ⟨2, ![2, 32768]⟩
abbrev S1x1 : Shape := ⟨2, ![1, 1]⟩
abbrev S4096x768 : Shape := ⟨2, ![4096, 768]⟩
abbrev S2x4096 : Shape := ⟨2, ![2, 4096]⟩
abbrev S64x128 : Shape := ⟨2, ![64, 128]⟩
abbrev S128x768 : Shape := ⟨2, ![128, 768]⟩
abbrev S128 : Shape := ⟨1, ![128]⟩
abbrev S1x128 : Shape := ⟨2, ![1, 128]⟩
abbrev S2x128 : Shape := ⟨2, ![2, 128]⟩
abbrev S1 : Shape := ⟨1, ![1]⟩
abbrev S32768x2 : Shape := ⟨2, ![32768, 2]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S64, .f32⟩
  | .hbm, ⟨3, _⟩ => ⟨S128x128, .f32⟩
  | .hbm, ⟨4, _⟩ => ⟨S32768x768, .f32⟩
  | .hbm, ⟨5, _⟩ => ⟨S64x1, .f32⟩
  | .hbm, ⟨6, _⟩ => ⟨S2x32768, .i32⟩
  | .hbm, ⟨7, _⟩ => ⟨S2x32768, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S32768x2, .i32⟩
  | .hbm, ⟨12, _⟩ => ⟨S32768x2, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S64x1, .f32⟩
  | .local _ .vmem, ⟨4, _⟩ => ⟨S128x128, .f32⟩
  | .local _ .vmem, ⟨5, _⟩ => ⟨S2x4096, .i32⟩
  | .local _ .vmem, ⟨6, _⟩ => ⟨S2x4096, .i32⟩
  | .local _ .vmem, ⟨7, _⟩ => ⟨S2x4096, .f32⟩
  | .local _ .vmem, ⟨8, _⟩ => ⟨S2x4096, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S64x1, .f32⟩
  | .local _ .vmem, ⟨13, _⟩ => ⟨S64x128, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v2767 : BitVec 1 := Scalar.cmpi .eq arg0 c7_i32
  let v2768 : BitVec 32 := Scalar.extui v2767
  let c0_i32_1068 : BitVec 32 := 0#32
  let v2769 : BitVec 1 := Scalar.cmpi .ne v2768 c0_i32_1068
  v2769

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4x8192x768 : Shape := ⟨3, ![4, 8192, 768]⟩
abbrev S64x768 : Shape := ⟨2, ![64, 768]⟩
abbrev S64 : Shape := ⟨1, ![64]⟩
abbrev S32768x768 : Shape := ⟨2, ![32768, 768]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩
abbrev S32768x2 : Shape := ⟨2, ![32768, 2]⟩
abbrev S65536 : Shape := ⟨1, ![65536]⟩
abbrev S65536x1 : Shape := ⟨2, ![65536, 1]⟩
abbrev S1 : Shape := ⟨1, ![1]⟩
abbrev S63 : Shape := ⟨1, ![63]⟩
abbrev S65 : Shape := ⟨1, ![65]⟩

abbrev nBuf : Space → Nat
  | .hbm => 160
  | .vmem => 0
  | .smem => 0
  | _ => 0

abbrev hbmTy0_0 (i : Nat) : BufTy := match i % 128 with
  | 0 => ⟨S4x8192x768, .f32⟩
  | 1 => ⟨S64x768, .f32⟩
  | 2 => ⟨S64, .f32⟩
  | 3 => ⟨S32768x768, .f32⟩
  | 4 => ⟨S768x64, .f32⟩
  | 5 => ⟨S32768x64, .f32⟩
  | 6 => ⟨S1x64, .f32⟩
  | 7 => ⟨S32768x64, .f32⟩
  | 8 => ⟨S32768x64, .f32⟩
  | 9 => ⟨S_, .f32⟩
  | 10 => ⟨S32768, .f32⟩
  | 11 => ⟨S_, .f32⟩
  | 12 => ⟨S32768, .f32⟩
  | 13 => ⟨S32768, .f32⟩
  | 14 => ⟨S32768x1, .f32⟩
  | 15 => ⟨S32768x64, .f32⟩
  | 16 => ⟨S32768x64, .f32⟩
  | 17 => ⟨S32768x64, .f32⟩
  | 18 => ⟨S_, .f32⟩
  | 19 => ⟨S32768, .f32⟩
  | 20 => ⟨S32768x1, .f32⟩
  | 21 => ⟨S32768x64, .f32⟩
  | 22 => ⟨S32768x64, .f32⟩
  | 23 => ⟨S32768x2, .f32⟩
  | 24 => ⟨S32768x2, .i32⟩
  | 25 => ⟨S_, .f32⟩
  | 26 => ⟨S32768, .f32⟩
  | 27 => ⟨S32768x1, .f32⟩
  | 28 => ⟨S_, .f32⟩
  | 29 => ⟨S_, .f32⟩
  | 30 => ⟨S32768x1, .f32⟩
  | 31 => ⟨S32768x1, .f32⟩
  | 32 => ⟨S32768x2, .f32⟩
  | 33 => ⟨S32768x2, .f32⟩
  | 34 => ⟨S65536, .i32⟩
  | 35 => ⟨S65536, .i32⟩
  | 36 => ⟨S65536, .i32⟩
  | 37 => ⟨S65536, .i32⟩
  | 38 => ⟨S_, .i32⟩
  | 39 => ⟨S65536, .i32⟩
  | 40 => ⟨S65536, .i1⟩
  | 41 => ⟨S_, .i32⟩
  | 42 => ⟨S65536, .i32⟩
  | 43 => ⟨S65536, .i32⟩
  | 44 => ⟨S65536, .i32⟩
  | 45 => ⟨S65536x1, .i32⟩
  | 46 => ⟨S65536, .i32⟩
  | 47 => ⟨S_, .i32⟩
  | 48 => ⟨S64, .i32⟩
  | 49 => ⟨S_, .i32⟩
  | 50 => ⟨S_, .i32⟩
  | 51 => ⟨S65536, .i32⟩
  | 52 => ⟨S65536, .i32⟩
  | 53 => ⟨S_, .i32⟩
  | 54 => ⟨S65536, .i32⟩
  | 55 => ⟨S65536, .i1⟩
  | 56 => ⟨S_, .i32⟩
  | 57 => ⟨S65536, .i32⟩
  | 58 => ⟨S65536, .i32⟩
  | 59 => ⟨S65536, .i32⟩
  | 60 => ⟨S65536x1, .i32⟩
  | 61 => ⟨S_, .i32⟩
  | 62 => ⟨S65536, .i32⟩
  | 63 => ⟨S64, .i32⟩
  | 64 => ⟨S_, .i32⟩
  | 65 => ⟨S_, .i32⟩
  | 66 => ⟨S64, .i32⟩
  | 67 => ⟨S65536, .i32⟩
  | 68 => ⟨S_, .i32⟩
  | 69 => ⟨S1, .i32⟩
  | 70 => ⟨S63, .i32⟩
  | 71 => ⟨S64, .i32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S65536, .i32⟩
  | 81 => ⟨S65536, .i32⟩
  | 82 => ⟨S65536, .i32⟩
  | 83 => ⟨S65536, .i32⟩
  | 84 => ⟨S65536, .i32⟩
  | 85 => ⟨S_, .i32⟩
  | 86 => ⟨S65536, .i32⟩
  | 87 => ⟨S65536, .i1⟩
  | 88 => ⟨S_, .i32⟩
  | 89 => ⟨S65536, .i32⟩
  | 90 => ⟨S65536, .i32⟩
  | 91 => ⟨S65536, .i32⟩
  | 92 => ⟨S65536x1, .i32⟩
  | 93 => ⟨S65536, .i32⟩
  | 94 => ⟨S_, .i32⟩
  | 95 => ⟨S65536, .i32⟩
  | 96 => ⟨S65536, .i1⟩
  | 97 => ⟨S32768x2, .i1⟩
  | 98 => ⟨S32768x2, .i32⟩
  | 99 => ⟨S32768x2, .i32⟩
  | 100 => ⟨S32768x2, .i1⟩
  | 101 => ⟨S32768x2, .i32⟩
  | 102 => ⟨S32768x2, .i32⟩
  | 103 => ⟨S32768x2, .f32⟩
  | 104 => ⟨S32768x2, .f32⟩
  | 105 => ⟨S65536, .i1⟩
  | 106 => ⟨S65536, .i32⟩
  | 107 => ⟨S_, .i32⟩
  | 108 => ⟨S_, .i32⟩
  | 109 => ⟨S65536, .i32⟩
  | 110 => ⟨S65536, .i32⟩
  | 111 => ⟨S_, .i32⟩
  | 112 => ⟨S65, .i32⟩
  | 113 => ⟨S_, .i32⟩
  | 114 => ⟨S_, .i32⟩
  | 115 => ⟨S65536, .i32⟩
  | 116 => ⟨S65536, .i32⟩
  | 117 => ⟨S_, .i32⟩
  | 118 => ⟨S65536, .i32⟩
  | 119 => ⟨S65536, .i1⟩
  | 120 => ⟨S_, .i32⟩
  | 121 => ⟨S65536, .i32⟩
  | 122 => ⟨S65536, .i32⟩
  | 123 => ⟨S65536, .i32⟩
  | 124 => ⟨S65536x1, .i32⟩
  | 125 => ⟨S_, .i32⟩
  | 126 => ⟨S65536, .i32⟩
  | 127 => ⟨S65, .i32⟩
  | _ => ⟨S4x8192x768, .f32⟩

abbrev hbmTy0_1 (i : Nat) : BufTy := match i % 128 with
  | 0 => ⟨S64, .i32⟩
  | 1 => ⟨S64, .f32⟩
  | 2 => ⟨S_, .f32⟩
  | 3 => ⟨S64, .f32⟩
  | 4 => ⟨S64, .f32⟩
  | 5 => ⟨S_, .f32⟩
  | 6 => ⟨S64, .f32⟩
  | 7 => ⟨S64, .f32⟩
  | 8 => ⟨S64, .f32⟩
  | 9 => ⟨S_, .f32⟩
  | 10 => ⟨S_, .f32⟩
  | 11 => ⟨S_, .f32⟩
  | 12 => ⟨S_, .f32⟩
  | 13 => ⟨S_, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S32768x2, .i1⟩
  | 27 => ⟨S32768x2, .f32⟩
  | 28 => ⟨S_, .f32⟩
  | 29 => ⟨S_, .f32⟩
  | 30 => ⟨S_, .f32⟩
  | 31 => ⟨S_, .f32⟩
  | _ => ⟨S4x8192x768, .f32⟩

abbrev hbmTy (i : Nat) : BufTy := match i / 128 with
  | 0 => hbmTy0_0 i
  | 1 => hbmTy0_1 i
  | _ => ⟨S4x8192x768, .f32⟩

abbrev bufTy : (tb : Table) → Fin (tcTables nBuf tb) → BufTy
  | .hbm, ⟨i, _⟩ => hbmTy i
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_v0 : Ref sig .tc := ⟨.hbm, 35, rfl⟩
abbrev main_call1_v1_0 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_c_6 : Ref sig .tc := ⟨.hbm, 49, rfl⟩
abbrev main_call2_v0 : Ref sig .tc := ⟨.hbm, 50, rfl⟩
abbrev main_call2_v1 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_call3_call0_c : Ref sig .tc := ⟨.hbm, 64, rfl⟩
abbrev main_call3_call0_v0 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call4_v0 : Ref sig .tc := ⟨.hbm, 82, rfl⟩
abbrev main_call4_v1_0 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_call5_v0 : Ref sig .tc := ⟨.hbm, 108, rfl⟩
abbrev main_call5_v1 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_c_18 : Ref sig .tc := ⟨.hbm, 113, rfl⟩
abbrev main_call6_v0 : Ref sig .tc := ⟨.hbm, 114, rfl⟩
abbrev main_call6_v1 : Ref sig .tc := ⟨.hbm, 115, rfl⟩
abbrev main_v76 : Ref sig .tc := ⟨.hbm, 116, rfl⟩
abbrev main_c_19 : Ref sig .tc := ⟨.hbm, 117, rfl⟩
abbrev main_v77 : Ref sig .tc := ⟨.hbm, 118, rfl⟩
abbrev main_v78 : Ref sig .tc := ⟨.hbm, 119, rfl⟩
abbrev main_c_20 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_21 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_22 : Ref sig .tc := ⟨.hbm, 130, rfl⟩
abbrev main_v87 : Ref sig .tc := ⟨.hbm, 131, rfl⟩
abbrev main_v88 : Ref sig .tc := ⟨.hbm, 132, rfl⟩
abbrev main_cst_23 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_24 : Ref sig .tc := ⟨.hbm, 137, rfl⟩
abbrev main_v92 : Ref sig .tc := ⟨.hbm, 138, rfl⟩
abbrev main_cst_25 : Ref sig .tc := ⟨.hbm, 139, rfl⟩
abbrev main_v93 : Ref sig .tc := ⟨.hbm, 140, rfl⟩
abbrev main_cst_26 : Ref sig .tc := ⟨.hbm, 141, rfl⟩
abbrev main_v94 : Ref sig .tc := ⟨.hbm, 142, rfl⟩
abbrev main_cst_27 : Ref sig .tc := ⟨.hbm, 143, rfl⟩
abbrev main_v95 : Ref sig .tc := ⟨.hbm, 144, rfl⟩
abbrev main_v96 : Ref sig .tc := ⟨.hbm, 145, rfl⟩
abbrev main_cst_28 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_29 : Ref sig .tc := ⟨.hbm, 150, rfl⟩
abbrev main_v100 : Ref sig .tc := ⟨.hbm, 151, rfl⟩
abbrev main_cst_30 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_31 : Ref sig .tc := ⟨.hbm, 156, rfl⟩
abbrev main_v104 : Ref sig .tc := ⟨.hbm, 157, rfl⟩
abbrev main_cst_32 : Ref sig .tc := ⟨.hbm, 158, rfl⟩
abbrev main_v105 : Ref sig .tc := ⟨.hbm, 159, rfl⟩

abbrev nD : Nat := 1
abbrev τ : Topo := Topo.v7x

variable {F : FTy → Type} [FloatOps F]
-- ==== Proof.Chunk.lean ====
/- What one grid point computes: the kernel's block of 4096 tokens is worked through in 32 chunks of 128 tokens (a token is
   a column), each chunk by the same operations. `logits` is a chunk's expert scores, the functions after it the chunk's two
   selected experts, their weights and what survives the capacity; `cntStep` and `impStep` carry the experts' counts and
   the summed probabilities from chunk to chunk. -/
module

public import proofs.«01_k».proof.Proof.Gen.KernelIdeal.Frame

@[expose] public section

noncomputable section

namespace Cert.KernelIdeal.Chunk

open Cert.KernelIdeal Cert.KernelIdeal.Gen Idealize.ShloMosaic Idealize.SL.Sem

variable {F : FTy → Type} [FloatOps F] [Named F]

/-- The scores of a chunk: the weights against the chunk's tokens, plus the bias. -/
def logits (w : Vec F S64x768 .f32) (b : Vec F S64x1 .f32) (xc : Vec F S128x768 .f32) : FVec F S64x128 .f32 :=
  addf (matmul dot_S64x768_S128x768_S64x128_1_1_0_0_n_n none w (shapeCast S128x768 xc shapeCasts_S128x768_S128x768)
      (constant S64x128 .f32 0x00000000#32))
    (broadcastTo S64x128 (shapeCast S64x1 b shapeCasts_S64x1_S64x1) broadcasts_S64x1_S64x128)

def rows : IVec S64x128 32 := iota .tc S64x128 32 [0] iota_S64x128_d0_w32

/-- The greatest entry of each column. -/
def colMax (lg : FVec F S64x128 .f32) : FVec F S1x128 .f32 :=
  shapeCast S1x128 (multiReduction .maximumf [0] S128 lg 0xFF800000#32 reduces_S64x128_S128 (.inl rfl) rfl) shapeCasts_S128_S1x128

/-- The first row that holds the greatest entry of its column. -/
def firstMax (lg : FVec F S64x128 .f32) : IVec S1x128 32 :=
  shapeCast S1x128 (multiReductionI .minsi [0] S128
    (select (cmpf .oeq lg (broadcastTo S64x128 (colMax lg) broadcasts_S1x128_S64x128)) rows (broadcast S64x128 64#32))
    2147483647#32 reduces_S64x128_S128 rfl) shapeCasts_S128_S1x128

def hot (e : IVec S1x128 32) : IVec S64x128 1 := cmpi .eq rows (broadcastTo S64x128 e broadcasts_S1x128_S64x128)

/-- The scores with the first choice masked out. -/
def rest (lg : FVec F S64x128 .f32) : FVec F S64x128 .f32 :=
  select (hot (firstMax lg)) (broadcast S64x128 (Named.named κ "mask" 0xFF61B1E6#32)) lg

def hot0 (lg : FVec F S64x128 .f32) : IVec S64x128 1 := hot (firstMax lg)
def hot1 (lg : FVec F S64x128 .f32) : IVec S64x128 1 := hot (firstMax (rest lg))

def ratio (lg : FVec F S64x128 .f32) : FVec F S1x128 .f32 := exp (subf (colMax (rest lg)) (colMax lg))

def weight0 (lg : FVec F S64x128 .f32) : FVec F S1x128 .f32 :=
  divf (broadcast S1x128 (Scalar.ofBits .f32 0x3F800000#32)) (addf (broadcast S1x128 (Scalar.ofBits .f32 0x3F800000#32)) (ratio lg))

def weight1 (lg : FVec F S64x128 .f32) : FVec F S1x128 .f32 := mulf (ratio lg) (weight0 lg)

def exps (lg : FVec F S64x128 .f32) : FVec F S64x128 .f32 :=
  exp (subf lg (broadcastTo S64x128 (colMax lg) broadcasts_S1x128_S64x128))

/-- The chunk's probabilities added to the running sums. -/
def impStep (acc lg : FVec F S64x128 .f32) : FVec F S64x128 .f32 :=
  addf acc (mulf (exps lg) (broadcastTo S64x128
    (divf (broadcast S1x128 (Scalar.ofBits .f32 0x3F800000#32))
      (shapeCast S1x128 (multiReduction .add [0] S128 (exps lg) 0x00000000#32 reduces_S64x128_S128 (.inl rfl) rfl) shapeCasts_S128_S1x128))
    broadcasts_S1x128_S64x128))

/-- Who is chosen, first or second, as 1 and 0. -/
def chosen (lg : FVec F S64x128 .f32) : FVec F S64x128 .f32 :=
  select (ori (hot0 lg) (hot1 lg)) (broadcast S64x128 (Scalar.ofBits .f32 0x3F800000#32)) (broadcast S64x128 (Scalar.ofBits .f32 0x00000000#32))

/-- How often an expert is chosen by the chunk's earlier tokens. -/
def earlier (lt : Vec F S128x128 .f32) (lg : FVec F S64x128 .f32) : FVec F S64x128 .f32 :=
  matmul dot_S64x128_S128x128_S64x128_1_0_0_1_n_n none (chosen lg) lt (constant S64x128 .f32 0x00000000#32)

def room (lt : Vec F S128x128 .f32) (cnt : FVec F S64x1 .f32) (lg : FVec F S64x128 .f32) : IVec S64x128 1 :=
  cmpf .olt (addf (broadcastTo S64x128 cnt broadcasts_S64x1_S64x128) (earlier lt lg)) (broadcast S64x128 (Scalar.ofBits .f32 0x44A00000#32))

/-- Whether some row of the column is set. -/
def anyRow (h : IVec S64x128 1) : IVec S1x128 1 :=
  shapeCast S1x128 (cmpf (F := F) .ogt (multiReduction .maximumf [0] S128
      (select h (broadcast S64x128 (Scalar.ofBits .f32 0x3F800000#32)) (broadcast S64x128 (Scalar.ofBits .f32 0x00000000#32)))
      0xFF800000#32 reduces_S64x128_S128 (.inl rfl) rfl)
    (broadcast S128 (Scalar.ofBits .f32 0x00000000#32))) shapeCasts_S128_S1x128

def keep0 (lt : Vec F S128x128 .f32) (cnt : FVec F S64x1 .f32) (lg : FVec F S64x128 .f32) : IVec S1x128 1 :=
  anyRow (F := F) (andi (hot0 lg) (room lt cnt lg))
def keep1 (lt : Vec F S128x128 .f32) (cnt : FVec F S64x1 .f32) (lg : FVec F S64x128 .f32) : IVec S1x128 1 :=
  anyRow (F := F) (andi (hot1 lg) (room lt cnt lg))

/-- The chunk's columns of the first result: the experts kept, −1 where there was no room. -/
def idxOut (lt : Vec F S128x128 .f32) (cnt : FVec F S64x1 .f32) (lg : FVec F S64x128 .f32) : IVec S2x128 32 :=
  concatenate S2x128 0 [⟨S1x128, select (keep0 lt cnt lg) (firstMax lg) (broadcast S1x128 4294967295#32)⟩,
    ⟨S1x128, select (keep1 lt cnt lg) (firstMax (rest lg)) (broadcast S1x128 4294967295#32)⟩] concatenates_S1x128_S1x128_S2x128_d0

/-- The chunk's columns of the second result: the weights kept, 0 where there was no room. -/
def wtOut (lt : Vec F S128x128 .f32) (cnt : FVec F S64x1 .f32) (lg : FVec F S64x128 .f32) : FVec F S2x128 .f32 :=
  concatenate S2x128 0 [⟨S1x128, select (keep0 lt cnt lg) (weight0 lg) (broadcast S1x128 (Scalar.ofBits .f32 0x00000000#32))⟩,
    ⟨S1x128, select (keep1 lt cnt lg) (weight1 lg) (broadcast S1x128 (Scalar.ofBits .f32 0x00000000#32))⟩] concatenates_S1x128_S1x128_S2x128_d0

/-- The counts after the chunk. -/
def cntStep (lt : Vec F S128x128 .f32) (cnt : FVec F S64x1 .f32) (lg : FVec F S64x128 .f32) : FVec F S64x1 .f32 :=
  addf (addf cnt (extractStridedSlice S64x1 ![0, 127] (earlier lt lg) slices_S64x128_o0_127_S64x1))
    (extractStridedSlice S64x1 ![0, 127] (chosen lg) slices_S64x128_o0_127_S64x1)

/-- The counts before chunk `k` of a point whose chunks have the scores `lg`. -/
def cntAt (lt : Vec F S128x128 .f32) (cnt : FVec F S64x1 .f32) (lg : Fin 32 → FVec F S64x128 .f32) : (k : ℕ) → k ≤ 32 → FVec F S64x1 .f32
  | 0, _ => cnt
  | k + 1, h => cntStep lt (cntAt lt cnt lg k (Nat.le_of_succ_le h)) (lg ⟨k, h⟩)

/-- The summed probabilities before chunk `k`. -/
def impAt (acc : FVec F S64x128 .f32) (lg : Fin 32 → FVec F S64x128 .f32) : (k : ℕ) → k ≤ 32 → FVec F S64x128 .f32
  | 0, _ => acc
  | k + 1, h => impStep (impAt acc lg k (Nat.le_of_succ_le h)) (lg ⟨k, h⟩)

/-- The counts cut at the capacity. -/
def kept (cnt : FVec F S64x1 .f32) : FVec F S64x1 .f32 := minimumf cnt (broadcast S64x1 (Scalar.ofBits .f32 0x44A00000#32))

/-- The mean over the experts of the squared distance to the even share. -/
def spread (v : FVec F S64x1 .f32) : FVec F S1x1 .f32 :=
  have d : FVec F S64x1 .f32 := subf v (broadcast S64x1 (Scalar.ofBits .f32 0x3C800000#32))
  divf (shapeCast S1x1 (multiReduction .add [0] S1 (mulf d d) 0x00000000#32 reduces_S64x1_S1 (.inl rfl) rfl) shapeCasts_S1_S1x1)
    (broadcast S1x1 (Scalar.ofBits .f32 0x42800000#32))

def loadOut (cnt : FVec F S64x1 .f32) : FVec F S1x1 .f32 :=
  spread (divf (kept cnt) (broadcast S64x1 (Scalar.ofBits .f32 0x47800000#32)))

def importanceOut (acc : FVec F S64x128 .f32) : FVec F S1x1 .f32 :=
  spread (divf (shapeCast S64x1 (multiReduction .add [1] S64 acc 0x00000000#32 reduces_S64x128_S64 (.inl rfl) rfl) shapeCasts_S64_S64x1)
    (broadcast S64x1 (Scalar.ofBits .f32 0x47000000#32)))

def overflowOut (cnt : FVec F S64x1 .f32) : FVec F S1x1 .f32 :=
  divf (subf (broadcast S1x1 (Scalar.ofBits .f32 0x47800000#32))
      (shapeCast S1x1 (multiReduction .add [0] S1 (kept cnt) 0x00000000#32 reduces_S64x1_S1 (.inl rfl) rfl) shapeCasts_S1_S1x1))
    (broadcast S1x1 (Scalar.ofBits .f32 0x47800000#32))

theorem rows_inb (k : Fin 32) : ∀ a, (![128 * k.val, 0] : Fin 2 → ℕ) a + S128x768.size a ≤ S4096x768.size a := by
  have := k.isLt
  intro a; fin_cases a
  · show 128 * k.val + 128 ≤ 4096; omega
  · show 0 + 768 ≤ 768; omega

theorem cols_inb (k : Fin 32) : ∀ a, (![0, 128 * k.val] : Fin 2 → ℕ) a + S2x128.size a ≤ S2x4096.size a := by
  have := k.isLt
  intro a; fin_cases a
  · show 0 + 2 ≤ 2; omega
  · show 128 * k.val + 128 ≤ 4096; omega

end Cert.KernelIdeal.Chunk

end
-- ==== Proof.Point.lean ====
/- The kernel point by point: what a grid point leaves in its blocks of the results and in the two carried sums, as the
   functions of its chunks (`Chunk`), over what the point before it left. -/
module

public import proofs.«01_k».proof.Proof.Chunk
public import Idealize.ShloMosaic.Lib.Pipeline.Value
public import Idealize.ShloMosaic.Lib.Pipeline.ValueKit.Tiles

@[expose] public section

set_option maxRecDepth 16384

noncomputable section

namespace Cert.KernelIdeal.Chunk

open Cert.KernelIdeal Cert.KernelIdeal.Gen Idealize.ShloMosaic Idealize.ShloMosaic.TcCoe Idealize.ShloMosaic.Tactic Idealize.SL.Sem

variable {F : FTy → Type} [FloatOps F] [Named F]

theorem zero2 : (![0, 0] : Fin 2 → ℕ) = fun _ => 0 := by funext a; fin_cases a <;> rfl

/-- A load of a whole buffer that holds `x` reads `x` through the load's rectangle. -/
theorem readAt_unread {sp : Space} {s : Shape} {e : EltTy} {M : Memref sig .tc sp s e} (h : M.IsWhole) (x : s.Idx → Elt F e) (r : Rect s) :
    View.readAt (Elt F) M.view r.toLoadRect (h.unread x) = View.ld x r := by
  rw [View.readAt_eq_ld, h.read_unread]

/-- The scores of a block's 32 chunks. -/
def scores (x0 : Vec F S4096x768 .f32) (x1 : Vec F S64x768 .f32) (x2 : Vec F S64x1 .f32) (k : Fin 32) : FVec F S64x128 .f32 :=
  logits x1 x2 (View.ld x0 (Rect.unit (s := S4096x768) ![128 * k.val, 0] S128x768.size (rows_inb k)))

section Loaded

variable {a1 : Memref sig .tc .vmem S4096x768 .f32} (h1 : a1.IsWhole) {a2 : Memref sig .tc .vmem S64x768 .f32} (h2 : a2.IsWhole)
  {a3 : Memref sig .tc .vmem S64x1 .f32} (h3 : a3.IsWhole)

/-- The scores as the body has them, from its loads. -/
def scoresL (x0 : Vec F S4096x768 .f32) (x1 : Vec F S64x768 .f32) (x2 : Vec F S64x1 .f32) (k : Fin 32) : FVec F S64x128 .f32 :=
  logits (View.readAt (Elt F) a2.view (Rect.unit (s := S64x768) ![0, 0] S64x768.size inb_S64x768_S64x768_0_0).toLoadRect (h2.unread x1))
    (View.readAt (Elt F) a3.view (Rect.unit (s := S64x1) ![0, 0] S64x1.size inb_S64x1_S64x1_0_0).toLoadRect (h3.unread x2))
    (View.readAt (Elt F) a1.view (Rect.unit (s := S4096x768) ![128 * k.val, 0] S128x768.size (rows_inb k)).toLoadRect (h1.unread x0))

theorem scoresL_eq (x0 : Vec F S4096x768 .f32) (x1 : Vec F S64x768 .f32) (x2 : Vec F S64x1 .f32) :
    scoresL h1 h2 h3 x0 x1 x2 = scores x0 x1 x2 := by
  funext k
  unfold scoresL scores
  rw [readAt_unread h1, readAt_unread h2, readAt_unread h3, View.ld_unit_zero zero2, View.ld_unit_zero zero2]

end Loaded

/-- A whole load of a buffer that holds `x`. -/
def wholeL {s : Shape} {M : Memref sig .tc .vmem s .f32} (h : M.IsWhole) (off : Fin s.rank → ℕ) (inb : ∀ a, off a + s.size a ≤ s.size a)
    (x : Vec F s .f32) : Vec F s .f32 :=
  View.readAt (Elt F) M.view (Rect.unit (s := s) off s.size inb).toLoadRect (h.unread x)

theorem wholeL_eq {s : Shape} {M : Memref sig .tc .vmem s .f32} (h : M.IsWhole) {off : Fin s.rank → ℕ} (hz : off = fun _ => 0)
    (inb : ∀ a, off a + s.size a ≤ s.size a) (x : Vec F s .f32) : wholeL h off inb x = x := by
  unfold wholeL; rw [readAt_unread h, View.ld_unit_zero hz]

/-- A whole load of a buffer into which `x` was stored whole. -/
def storedL {s : Shape} (M : Memref sig .tc .vmem s .f32) (off : Fin s.rank → ℕ) (inb : ∀ a, off a + s.size a ≤ s.size a)
    (x : Vec F s .f32) : Vec F s .f32 :=
  M.view.readCov [(⟨Rect.unit (s := s) off s.size inb, x⟩ : View.Piece (Elt F) s .f32)] (Rect.unit (s := s) off s.size inb).toLoadRect

theorem storedL_eq {s : Shape} (M : Memref sig .tc .vmem s .f32) {off : Fin s.rank → ℕ} (hz : off = fun _ => 0)
    (inb : ∀ a, off a + s.size a ≤ s.size a) (x : Vec F s .f32) : storedL M off inb x = x :=
  View.readCov_unit_zero M.view hz inb x

/-- The block of the first result a point leaves, last chunk first as it is stored. -/
def idxPieces (lt : Vec F S128x128 .f32) (cnt : FVec F S64x1 .f32) (lg : Fin 32 → FVec F S64x128 .f32) : List (View.Piece (Elt F) S2x4096 .i32) :=
  List.ofFn fun k : Fin 32 => ⟨Rect.unit (s := S2x4096) ![0, 128 * k.rev.val] S2x128.size (cols_inb k.rev),
    idxOut lt (cntAt lt cnt lg k.rev.val (Nat.le_of_lt k.rev.isLt)) (lg k.rev)⟩

def wtPieces (lt : Vec F S128x128 .f32) (cnt : FVec F S64x1 .f32) (lg : Fin 32 → FVec F S64x128 .f32) : List (View.Piece (Elt F) S2x4096 .f32) :=
  List.ofFn fun k : Fin 32 => ⟨Rect.unit (s := S2x4096) ![0, 128 * k.rev.val] S2x128.size (cols_inb k.rev),
    wtOut lt (cntAt lt cnt lg k.rev.val (Nat.le_of_lt k.rev.isLt)) (lg k.rev)⟩

variable (m : (ℓ : Loc nD τ sig) → Buf (Elt F) ℓ) (c : Dev nD)

/-- The scores of point `t`'s chunks, and the matrix its earlier tokens are counted by. -/
def lgAt (t : Fin cfg0.N) : Fin 32 → FVec F S64x128 .f32 := scores (iblk m c 0 t) (iblk m c 1 t) (iblk m c 2 t)
def ltAt (t : Fin cfg0.N) : Vec F S128x128 .f32 := iblk m c 3 t

/-- The counts and the summed probabilities point `t` starts from. -/
def cntIn (t : Fin cfg0.N) : FVec F S64x1 .f32 :=
  if t.val % 8 = 0 then k0_pay11 else (outsAt0 m c (t.val - 1) (Nat.lt_of_le_of_lt (Nat.sub_le _ _) t.isLt)).2.2.2.2.2.1
def impIn (t : Fin cfg0.N) : FVec F S64x128 .f32 :=
  if t.val % 8 = 0 then k0_pay12 else (outsAt0 m c (t.val - 1) (Nat.lt_of_le_of_lt (Nat.sub_le _ _) t.isLt)).2.2.2.2.2.2

/-- What a point leaves in its blocks of the first two results and in the carried sums, in the sums it starts from. -/
def Leaves (t : Fin cfg0.N) : Prop :=
    (outsAt0 m c t.val t.isLt).1 = View.canon (idxPieces (ltAt m c t) (cntIn m c t) (lgAt m c t))
    ∧ (outsAt0 m c t.val t.isLt).2.1 = View.canon (wtPieces (ltAt m c t) (cntIn m c t) (lgAt m c t))
    ∧ (outsAt0 m c t.val t.isLt).2.2.2.2.2.1 = cntAt (ltAt m c t) (cntIn m c t) (lgAt m c t) 32 le_rfl
    ∧ (outsAt0 m c t.val t.isLt).2.2.2.2.2.2 = impAt (impIn m c t) (lgAt m c t) 32 le_rfl

theorem ltAt_eq (t : Fin cfg0.N) : wholeL (hs0_3 t) ![0, 0] inb_S128x128_S128x128_0_0 (iblk m c 3 t) = ltAt m c t :=
  wholeL_eq (hs0_3 t) zero2 inb_S128x128_S128x128_0_0 _

theorem lgAt_eq (t : Fin cfg0.N) : scoresL (hs0_0 t) (hs0_1 t) (hs0_2 t) (iblk m c 0 t) (iblk m c 1 t) (iblk m c 2 t) = lgAt m c t :=
  scoresL_eq (hs0_0 t) (hs0_1 t) (hs0_2 t) _ _ _

theorem cntIn_first (t : Fin cfg0.N) (h0 : t.val % 8 = 0) :
    storedL scM0_0 ![0, 0] inb_S64x1_S64x1_0_0 (k0_pay11 (F := F)) = cntIn m c t := by
  rw [storedL_eq _ zero2]; unfold cntIn; rw [if_pos h0]

theorem impIn_first (t : Fin cfg0.N) (h0 : t.val % 8 = 0) :
    storedL scM0_1 ![0, 0] inb_S64x128_S64x128_0_0 (k0_pay12 (F := F)) = impIn m c t := by
  rw [storedL_eq _ zero2]; unfold impIn; rw [if_pos h0]

theorem cntIn_later (t : Fin cfg0.N) (h0 : ¬t.val % 8 = 0) :
    wholeL (Memref.isWhole_whole cc0_scratch0) ![0, 0] inb_S64x1_S64x1_0_0 (outsAt0 m c (t.val - 1) (Nat.lt_of_le_of_lt (Nat.sub_le _ _) t.isLt)).2.2.2.2.2.1
      = cntIn m c t := by
  rw [wholeL_eq _ zero2]; unfold cntIn; rw [if_neg h0]

theorem impIn_later (t : Fin cfg0.N) (h0 : ¬t.val % 8 = 0) :
    wholeL (Memref.isWhole_whole cc0_scratch1) ![0, 0] inb_S64x128_S64x128_0_0 (outsAt0 m c (t.val - 1) (Nat.lt_of_le_of_lt (Nat.sub_le _ _) t.isLt)).2.2.2.2.2.2
      = impIn m c t := by
  rw [wholeL_eq _ zero2]; unfold impIn; rw [if_neg h0]

/-- A whole store, the last of a buffer's, leaves what it stored. -/
theorem canon_whole {s : Shape} {e : EltTy} {L : List (View.Piece (Elt F) s e)} {off : Fin s.rank → ℕ} (hz : off = fun _ => 0)
    (inb : ∀ a, off a + s.size a ≤ s.size a) (w : s.Idx → Elt F e) (L' : List (View.Piece (Elt F) s e))
    (h : L = (⟨Rect.unit (s := s) off s.size inb, w⟩ : View.Piece (Elt F) s e) :: L') : View.canon L = w := by
  rw [h]; exact View.canon_cons_unit_zero hz inb w L'

theorem point_A (t : Fin cfg0.N) (h0 : t.val % 8 = 0) : Leaves m c t := by
  unfold Leaves
  rw [outsAt0_A m c t h0 (by omega), ← ltAt_eq, ← lgAt_eq, ← cntIn_first m c t h0, ← impIn_first m c t h0]
  refine ⟨?_, ?_, ?_, ?_⟩
  · unfold out0_A_4
    rw [View.read_writes_junk_eq_canon]
    exact congrArg View.canon (by sl_kernel_rfl)
  · unfold out0_A_5
    rw [View.read_writes_junk_eq_canon]
    exact congrArg View.canon (by sl_kernel_rfl)
  · unfold sout0_A_0
    rw [View.read_writes_junk_eq_canon]
    refine (canon_whole zero2 inb_S64x1_S64x1_0_0 (shapeCast S64x1 (cntAt _ _ _ 32 le_rfl) shapeCasts_S64x1_S64x1) [⟨Rect.unit (s := S64x1) ![0, 0] S64x1.size inb_S64x1_S64x1_0_0, k0_pay11⟩] (by sl_kernel_rfl)).trans (shapeCast_self _ _)
  · unfold sout0_A_1
    rw [View.read_writes_junk_eq_canon]
    refine (canon_whole zero2 inb_S64x128_S64x128_0_0 (shapeCast S64x128 (impAt _ _ 32 le_rfl) shapeCasts_S64x128_S64x128) [⟨Rect.unit (s := S64x128) ![0, 0] S64x128.size inb_S64x128_S64x128_0_0, k0_pay12⟩] (by sl_kernel_rfl)).trans (shapeCast_self _ _)

theorem point_B (t : Fin cfg0.N) (h0 : ¬t.val % 8 = 0) (h1 : ¬t.val % 8 = 7) : Leaves m c t := by
  unfold Leaves
  rw [outsAt0_B m c t h0 h1, ← ltAt_eq, ← lgAt_eq, ← cntIn_later m c t h0, ← impIn_later m c t h0]
  refine ⟨?_, ?_, ?_, ?_⟩
  · unfold out0_B_4
    rw [View.read_writes_junk_eq_canon]
    exact congrArg View.canon (by sl_kernel_rfl)
  · unfold out0_B_5
    rw [View.read_writes_junk_eq_canon]
    exact congrArg View.canon (by sl_kernel_rfl)
  · unfold sout0_B_0
    rw [View.read_writes_junk_eq_canon]
    refine (canon_whole zero2 inb_S64x1_S64x1_0_0 (shapeCast S64x1 (cntAt _ _ _ 32 le_rfl) shapeCasts_S64x1_S64x1) [] (by sl_kernel_rfl)).trans (shapeCast_self _ _)
  · unfold sout0_B_1
    rw [View.read_writes_junk_eq_canon]
    refine (canon_whole zero2 inb_S64x128_S64x128_0_0 (shapeCast S64x128 (impAt _ _ 32 le_rfl) shapeCasts_S64x128_S64x128) [] (by sl_kernel_rfl)).trans (shapeCast_self _ _)

theorem point_C (t : Fin cfg0.N) (h0 : ¬t.val % 8 = 0) (h1 : t.val % 8 = 7) : Leaves m c t := by
  unfold Leaves
  rw [outsAt0_C m c t h0 h1, ← ltAt_eq, ← lgAt_eq, ← cntIn_later m c t h0, ← impIn_later m c t h0]
  refine ⟨?_, ?_, ?_, ?_⟩
  · unfold out0_C_4
    rw [View.read_writes_junk_eq_canon]
    exact congrArg View.canon (by sl_kernel_rfl)
  · unfold out0_C_5
    rw [View.read_writes_junk_eq_canon]
    exact congrArg View.canon (by sl_kernel_rfl)
  · unfold sout0_C_0
    rw [View.read_writes_junk_eq_canon]
    refine (canon_whole zero2 inb_S64x1_S64x1_0_0 (shapeCast S64x1 (cntAt _ _ _ 32 le_rfl) shapeCasts_S64x1_S64x1) [] (by sl_kernel_rfl)).trans (shapeCast_self _ _)
  · unfold sout0_C_1
    rw [View.read_writes_junk_eq_canon]
    refine (canon_whole zero2 inb_S64x128_S64x128_0_0 (shapeCast S64x128 (impAt _ _ 32 le_rfl) shapeCasts_S64x128_S64x128) [] (by sl_kernel_rfl)).trans (shapeCast_self _ _)

theorem point (t : Fin cfg0.N) : Leaves m c t := by
  by_cases h0 : t.val % 8 = 0
  · exact point_A m c t h0
  · by_cases h1 : t.val % 8 = 7
    · exact point_C m c t h0 h1
    · exact point_B m c t h0 h1

/-- What the last point leaves in the three losses. -/
theorem point_last (t : Fin cfg0.N) (h0 : ¬t.val % 8 = 0) (h1 : t.val % 8 = 7) :
    (outsAt0 m c t.val t.isLt).2.2.1 = loadOut (cntAt (ltAt m c t) (cntIn m c t) (lgAt m c t) 32 le_rfl)
    ∧ (outsAt0 m c t.val t.isLt).2.2.2.1 = importanceOut (impAt (impIn m c t) (lgAt m c t) 32 le_rfl)
    ∧ (outsAt0 m c t.val t.isLt).2.2.2.2.1 = overflowOut (cntAt (ltAt m c t) (cntIn m c t) (lgAt m c t) 32 le_rfl) := by
  rw [outsAt0_C m c t h0 h1, ← ltAt_eq, ← lgAt_eq, ← cntIn_later m c t h0, ← impIn_later m c t h0]
  refine ⟨?_, ?_, ?_⟩
  · unfold out0_C_6
    rw [View.read_writes_junk_eq_canon]
    exact canon_whole (F := F) (s := S1x1) (e := .f32) zero2 inb_S1x1_S1x1_0_0 (loadOut (cntAt _ _ _ 32 le_rfl)) [] (by sl_kernel_rfl)
  · unfold out0_C_7
    rw [View.read_writes_junk_eq_canon]
    exact canon_whole (F := F) (s := S1x1) (e := .f32) zero2 inb_S1x1_S1x1_0_0 (importanceOut (impAt _ _ 32 le_rfl)) [] (by sl_kernel_rfl)
  · unfold out0_C_8
    rw [View.read_writes_junk_eq_canon]
    exact canon_whole (F := F) (s := S1x1) (e := .f32) zero2 inb_S1x1_S1x1_0_0 (overflowOut (cntAt _ _ _ 32 le_rfl)) [] (by sl_kernel_rfl)

end Cert.KernelIdeal.Chunk

end
-- ==== Proof.Arrays.lean ====
/- The arrays the grid leaves: the points chained into one run of 256 chunks of 128 tokens, each result read at a token. -/
module

public import proofs.«01_k».proof.Proof.Point
public import Idealize.ShloMosaic.Lib.Pipeline.ValueKit
public import Idealize.ShloMosaic.Lib.ValueIdxCore

@[expose] public section

set_option maxRecDepth 16384

noncomputable section

namespace Cert.KernelIdeal.Chunk

open Cert.KernelIdeal Cert.KernelIdeal.Gen Idealize.ShloMosaic Idealize.SL.Sem

variable {F : FTy → Type} [FloatOps F] [Named F]

/-- The matrix earlier tokens are counted by. -/
def before : Vec F S128x128 .f32 := fun i => FloatOps.ofBits .f32 (lit0 (S128x128.rowMajor i))

/-- The counts before chunk `q` of all the tokens' chunks. -/
def cntUpTo (lg : ℕ → FVec F S64x128 .f32) : ℕ → FVec F S64x1 .f32
  | 0 => k0_pay11
  | q + 1 => cntStep before (cntUpTo lg q) (lg q)

/-- The summed probabilities before chunk `q`. -/
def impUpTo (lg : ℕ → FVec F S64x128 .f32) : ℕ → FVec F S64x128 .f32
  | 0 => k0_pay12
  | q + 1 => impStep (impUpTo lg q) (lg q)

variable (m : (ℓ : Loc nD τ sig) → Buf (Elt F) ℓ) (c : Dev nD)

theorem cfg_N : cfg0.N = 8 := rfl

/-- The scores of chunk `q`. -/
def chunk (q : ℕ) : FVec F S64x128 .f32 := lgAt m c ⟨q / 32 % 8, Nat.mod_lt _ (by decide)⟩ ⟨q % 32, Nat.mod_lt _ (by decide)⟩

theorem chunk_at (t : Fin cfg0.N) (k : Fin 32) : chunk m c (32 * t.val + k.val) = lgAt m c t k := by
  have ht : t.val < 8 := t.isLt
  unfold chunk
  congr 1
  · exact Fin.ext (by show (32 * t.val + k.val) / 32 % 8 = t.val; omega)
  · exact Fin.ext (by show (32 * t.val + k.val) % 32 = k.val; omega)

theorem index0_3 (t : Fin cfg0.N) : win0_3.index t = ![0, 0] := rfl

theorem entry_cst : V m c main_cst = (before : Vec F S128x128 .f32) := by
  show StableHlo.after hostOps0 (fun b => m (c, b)) (Proc.devRef .tc main_cst) = _
  unfold hostOps0
  after_results
  rfl

theorem ltAt_before (t : Fin cfg0.N) : ltAt m c t = (before : Vec F S128x128 .f32) := by
  rw [← entry_cst m c]
  funext y
  unfold ltAt iblk
  blk_simp
  refine congrArg (V m c main_cst) (funext fun a => Fin.ext ?_)
  fin_cases a <;> blk_simp [index0_3]

theorem cntAt_upTo (t : Fin cfg0.N) : ∀ (k : ℕ) (h : k ≤ 32),
    cntAt before (cntUpTo (chunk m c) (32 * t.val)) (lgAt m c t) k h = cntUpTo (chunk m c) (32 * t.val + k)
  | 0, _ => rfl
  | k + 1, h => by
    rw [cntAt, cntAt_upTo t k, ← chunk_at m c t ⟨k, h⟩]; rfl

theorem impAt_upTo (t : Fin cfg0.N) : ∀ (k : ℕ) (h : k ≤ 32),
    impAt (impUpTo (chunk m c) (32 * t.val)) (lgAt m c t) k h = impUpTo (chunk m c) (32 * t.val + k)
  | 0, _ => rfl
  | k + 1, h => by
    rw [impAt, impAt_upTo t k, ← chunk_at m c t ⟨k, h⟩]; rfl

theorem in_upTo : ∀ (n : ℕ) (h : n < cfg0.N),
    cntIn m c ⟨n, h⟩ = cntUpTo (chunk m c) (32 * n) ∧ impIn m c ⟨n, h⟩ = impUpTo (chunk m c) (32 * n)
  | 0, _ => ⟨rfl, rfl⟩
  | n + 1, h => by
    have h' : n < cfg0.N := by omega
    have hn : n + 1 < 8 := h
    obtain ⟨ih1, ih2⟩ := in_upTo n h'
    obtain ⟨-, -, p3, p4⟩ := point m c ⟨n, h'⟩
    have e0 : ¬(⟨n + 1, h⟩ : Fin cfg0.N).val % 8 = 0 := by show ¬(n + 1) % 8 = 0; omega
    constructor
    · unfold cntIn
      rw [if_neg e0]
      refine p3.trans ?_
      rw [ltAt_before, ih1]
      exact cntAt_upTo m c ⟨n, h'⟩ 32 le_rfl
    · unfold impIn
      rw [if_neg e0]
      refine p4.trans ?_
      rw [ih2]
      exact impAt_upTo m c ⟨n, h'⟩ 32 le_rfl

theorem cntIn_upTo (t : Fin cfg0.N) : cntIn m c t = cntUpTo (chunk m c) (32 * t.val) := (in_upTo m c t.val t.isLt).1
theorem impIn_upTo (t : Fin cfg0.N) : impIn m c t = impUpTo (chunk m c) (32 * t.val) := (in_upTo m c t.val t.isLt).2

/-- The first two results: at a token, the entry of its chunk. -/
def idxAll : S2x32768.Idx → Elt F .i32 := fun i =>
  idxOut before (cntUpTo (chunk m c) ((i 1).val / 128)) (chunk m c ((i 1).val / 128)) (ValueIdx.ix2 (i 0) ⟨(i 1).val % 128, Nat.mod_lt _ (by decide)⟩)
def wtAll : S2x32768.Idx → Elt F .f32 := fun i =>
  wtOut before (cntUpTo (chunk m c) ((i 1).val / 128)) (chunk m c ((i 1).val / 128)) (ValueIdx.ix2 (i 0) ⟨(i 1).val % 128, Nat.mod_lt _ (by decide)⟩)

theorem coord0 : ∀ t : Fin cfg0.N, (grid0.coords t 0).val = t.val := (by decide +kernel : ∀ t : Fin grid0.N, (grid0.coords t 0).val = t.val)

theorem index0_4 (t : Fin cfg0.N) : win0_4.index t = ![0, t.val] :=
  (by decide +kernel : ∀ t : Fin grid0.N, win0_4.index t = ![0, t.val]) t
theorem index0_5 (t : Fin cfg0.N) : win0_5.index t = ![0, t.val] :=
  (by decide +kernel : ∀ t : Fin grid0.N, win0_5.index t = ![0, t.val]) t

/-- A block stored in 32 pieces of 128 columns, read at a column. -/
theorem canon_columns {e : EltTy} (P : Fin 32 → S2x128.Idx → Elt F e) (y : S2x4096.Idx) (k : Fin 32) (x : S2x128.Idx)
    (h0 : (x 0).val = (y 0).val) (h1 : (y 1).val = 128 * k.val + (x 1).val) :
    View.canon (List.ofFn fun k : Fin 32 => (⟨Rect.unit (s := S2x4096) ![0, 128 * k.rev.val] S2x128.size (cols_inb k.rev), P k.rev⟩ : View.Piece (Elt F) S2x4096 e)) y
      = P k x := by
  have hx1 : (x 1).val < 128 := (x 1).isLt
  have hx0 : (x 0).val < 2 := (x 0).isLt
  refine View.canon_ofFn_unit_eq_of_forall (S := S2x4096) (fun k : Fin 32 => ![0, 128 * k.rev.val]) S2x128.size (fun k => cols_inb k.rev) (fun k => P k.rev) y _ ⟨k.rev, ?_⟩ ?_
  · rw [Fin.rev_rev]
    intro a
    fin_cases a
    · show 0 ≤ (y 0).val ∧ (y 0).val < 0 + 2; omega
    · show 128 * k.val ≤ (y 1).val ∧ (y 1).val < 128 * k.val + 128; omega
  · intro j x' hx'
    have e0 : (y 0).val = 0 + (x' 0).val := hx' 0
    have e1 : (y 1).val = 128 * j.rev.val + (x' 1).val := hx' 1
    have hx1' : (x' 1).val < 128 := (x' 1).isLt
    have hj : j.rev = k := Fin.ext (by omega)
    have hxx : x' = x := by
      funext a
      fin_cases a
      · exact Fin.ext (by show (x' 0).val = (x 0).val; omega)
      · exact Fin.ext (by show (x' 1).val = (x 1).val; rw [hj] at e1; omega)
    rw [hxx]; show P j.rev x = P k x; rw [hj]

theorem idxAll_of (i : S2x32768.Idx) (q : ℕ) (x : S2x128.Idx) (h0 : (i 0).val = (x 0).val) (h1 : (i 1).val = 128 * q + (x 1).val) :
    idxAll m c i = idxOut before (cntUpTo (chunk m c) q) (chunk m c q) x := by
  have hx1 : (x 1).val < 128 := (x 1).isLt
  have hq : (i 1).val / 128 = q := by omega
  unfold idxAll
  rw [hq]
  refine congrArg _ (funext fun a => Fin.ext ?_)
  fin_cases a
  · exact h0
  · show (i 1).val % 128 = (x 1).val; omega

theorem wtAll_of (i : S2x32768.Idx) (q : ℕ) (x : S2x128.Idx) (h0 : (i 0).val = (x 0).val) (h1 : (i 1).val = 128 * q + (x 1).val) :
    wtAll m c i = wtOut before (cntUpTo (chunk m c) q) (chunk m c q) x := by
  have hx1 : (x 1).val < 128 := (x 1).isLt
  have hq : (i 1).val / 128 = q := by omega
  unfold wtAll
  rw [hq]
  refine congrArg _ (funext fun a => Fin.ext ?_)
  fin_cases a
  · exact h0
  · show (i 1).val % 128 = (x 1).val; omega

theorem array_4 : (dats m 0 c).arrAt 4 cfg0.N = idxAll m c := by
  refine (dats m 0 c).arrAt_eq_of_covers 4 _ (by decide +kernel) fun t hf y => ?_
  blk_simp
  rw [after0_4, (point m c t).1, ltAt_before, cntIn_upTo]
  have hy : (y 1).val < 4096 := (y 1).isLt
  refine (canon_columns (F := F) (e := .i32) (fun k => idxOut before (cntAt before (cntUpTo (chunk m c) (32 * t.val)) (lgAt m c t) k.val (Nat.le_of_lt k.isLt)) (lgAt m c t k))
    y ⟨(y 1).val / 128, by omega⟩ (ValueIdx.ix2 (y 0) ⟨(y 1).val % 128, Nat.mod_lt _ (by decide)⟩) rfl (by show (y 1).val = 128 * ((y 1).val / 128) + (y 1).val % 128; omega)).trans ?_
  rw [cntAt_upTo, ← chunk_at]
  refine (idxAll_of m c _ _ _ ?_ ?_).symm
  · blk_simp [index0_4]
  · blk_simp [index0_4]
    show t.val * 4096 + (y 1).val = 128 * (32 * t.val + (y 1).val / 128) + (y 1).val % 128
    omega

theorem array_5 : (dats m 0 c).arrAt 5 cfg0.N = wtAll m c := by
  refine (dats m 0 c).arrAt_eq_of_covers 5 _ (by decide +kernel) fun t hf y => ?_
  blk_simp
  rw [after0_5, (point m c t).2.1, ltAt_before, cntIn_upTo]
  have hy : (y 1).val < 4096 := (y 1).isLt
  refine (canon_columns (F := F) (e := .f32) (fun k => wtOut before (cntAt before (cntUpTo (chunk m c) (32 * t.val)) (lgAt m c t) k.val (Nat.le_of_lt k.isLt)) (lgAt m c t k))
    y ⟨(y 1).val / 128, by omega⟩ (ValueIdx.ix2 (y 0) ⟨(y 1).val % 128, Nat.mod_lt _ (by decide)⟩) rfl (by show (y 1).val = 128 * ((y 1).val / 128) + (y 1).val % 128; omega)).trans ?_
  rw [cntAt_upTo, ← chunk_at]
  refine (wtAll_of m c _ _ _ ?_ ?_).symm
  · blk_simp [index0_5]
  · blk_simp [index0_5]
    show t.val * 4096 + (y 1).val = 128 * (32 * t.val + (y 1).val / 128) + (y 1).val % 128
    omega

theorem idx_one (x y : S1x1.Idx) : x = y := by
  funext a
  fin_cases a <;> exact Subsingleton.elim (α := Fin 1) _ _

theorem last_of_mod (t : Fin cfg0.N) (h : t.val % 8 = 7) : t.val = 7 := by
  have ht : t.val < 8 := t.isLt
  omega

theorem array_6 : (dats m 0 c).arrAt 6 cfg0.N = loadOut (cntUpTo (chunk m c) 256) := by
  refine (dats m 0 c).arrAt_eq_of_covers 6 _ (by decide +kernel) fun t hf y => ?_
  have h7 : t.val % 8 = 7 := (flush0_6 t).mp hf
  blk_simp
  rw [after0_6, (point_last m c t (by omega) h7).1, ltAt_before, cntIn_upTo, cntAt_upTo, last_of_mod t h7]
  exact congrArg (loadOut _) (idx_one _ _)

theorem array_7 : (dats m 0 c).arrAt 7 cfg0.N = importanceOut (impUpTo (chunk m c) 256) := by
  refine (dats m 0 c).arrAt_eq_of_covers 7 _ (by decide +kernel) fun t hf y => ?_
  have h7 : t.val % 8 = 7 := (flush0_7 t).mp hf
  blk_simp
  rw [after0_7, (point_last m c t (by omega) h7).2.1, impIn_upTo, impAt_upTo, last_of_mod t h7]
  exact congrArg (importanceOut _) (idx_one _ _)

theorem array_8 : (dats m 0 c).arrAt 8 cfg0.N = overflowOut (cntUpTo (chunk m c) 256) := by
  refine (dats m 0 c).arrAt_eq_of_covers 8 _ (by decide +kernel) fun t hf y => ?_
  have h7 : t.val % 8 = 7 := (flush0_8 t).mp hf
  blk_simp
  rw [after0_8, (point_last m c t (by omega) h7).2.2, ltAt_before, cntIn_upTo, cntAt_upTo, last_of_mod t h7]
  exact congrArg (overflowOut _) (idx_one _ _)

/-- The memory the operations after the grid find, at a window's array. -/
theorem array_arr (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c (V0 m c) (fun w => (dats m 0 c).arrAt w cfg0.N) w

/-- The kernel's run: its five results, and the arguments as they were. -/
theorem run (ρ : Dev nD → PrngReg) : θ_run defs (onTc (τ := τ) (main (F := F))) ⟨m, fun _ => 0, ρ⟩ (fun r => ∀ c : Dev nD,
      r.2.mem ((c.tc : Thread nD τ).loc main_v3) = transpose S32768x2 [1, 0] (idxAll m c) transposes_S2x32768_S32768x2_1_0
      ∧ r.2.mem ((c.tc : Thread nD τ).loc main_v4) = transpose S32768x2 [1, 0] (wtAll m c) transposes_S2x32768_S32768x2_1_0
      ∧ r.2.mem ((c.tc : Thread nD τ).loc main_v5) = shapeCast S_ (loadOut (cntUpTo (chunk m c) 256)) shapeCasts_S1x1_S_
      ∧ r.2.mem ((c.tc : Thread nD τ).loc main_v6) = shapeCast S_ (importanceOut (impUpTo (chunk m c) 256)) shapeCasts_S1x1_S_
      ∧ r.2.mem ((c.tc : Thread nD τ).loc main_v7) = shapeCast S_ (overflowOut (cntUpTo (chunk m c) 256)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h => ?_) (θ_run_and (run_main m ρ) (unchanged m ρ))
  intro c
  obtain ⟨h, hargs⟩ := h
  refine ⟨?_, ?_, ?_, ?_, ?_, (hargs c).1, (hargs c).2.1, (hargs c).2.2⟩
  · refine ((h c).2 main_v3 (Pipeline.mem_restRefs_of main_v3 (by decide) (by decide))).trans ?_
    unfold Pipeline.afterTail₀
    show StableHlo.after hostOps1 _ _ = _
    unfold hostOps1
    after_results
    exact congrArg (fun X => transpose S32768x2 [1, 0] X transposes_S2x32768_S32768x2_1_0) ((array_arr m c 4).trans (array_4 m c))
  · refine ((h c).2 main_v4 (Pipeline.mem_restRefs_of main_v4 (by decide) (by decide))).trans ?_
    unfold Pipeline.afterTail₀
    show StableHlo.after hostOps1 _ _ = _
    unfold hostOps1
    after_results
    exact congrArg (fun X => transpose S32768x2 [1, 0] X transposes_S2x32768_S32768x2_1_0) ((array_arr m c 5).trans (array_5 m c))
  · refine ((h c).2 main_v5 (Pipeline.mem_restRefs_of main_v5 (by decide) (by decide))).trans ?_
    unfold Pipeline.afterTail₀
    show StableHlo.after hostOps1 _ _ = _
    unfold hostOps1
    after_results
    exact congrArg (fun X => shapeCast S_ X shapeCasts_S1x1_S_) ((array_arr m c 6).trans (array_6 m c))
  · refine ((h c).2 main_v6 (Pipeline.mem_restRefs_of main_v6 (by decide) (by decide))).trans ?_
    unfold Pipeline.afterTail₀
    show StableHlo.after hostOps1 _ _ = _
    unfold hostOps1
    after_results
    exact congrArg (fun X => shapeCast S_ X shapeCasts_S1x1_S_) ((array_arr m c 7).trans (array_7 m c))
  · refine ((h c).2 main_v7 (Pipeline.mem_restRefs_of main_v7 (by decide) (by decide))).trans ?_
    unfold Pipeline.afterTail₀
    show StableHlo.after hostOps1 _ _ = _
    unfold hostOps1
    after_results
    exact congrArg (fun X => shapeCast S_ X shapeCasts_S1x1_S_) ((array_arr m c 8).trans (array_8 m c))

end Cert.KernelIdeal.Chunk

end
-- ==== Proof.Route.lean ====
/- The mathematics of the routing, with no program in it: the two greatest entries of a row, ranks under a stable sort,
   and how many of a list of requests fit a capacity. -/
module

public import Idealize.ShloMosaic.Lib.SortPrefix
public import Mathlib.Data.EReal.Operations
public import Mathlib.Data.Nat.Count
public import Mathlib.Algebra.BigOperators.Fin

@[expose] public section

noncomputable section

namespace Cert.Route

open Idealize.ShloMosaic

/-! ## The two greatest entries of a row -/

/-- The first position of the greatest entry. -/
def IsFirst {α : Type} [LinearOrder α] (v : Fin 64 → α) (e : Fin 64) : Prop := (∀ j, v j ≤ v e) ∧ ∀ j, j < e → v j < v e

theorem IsFirst.unique {α : Type} [LinearOrder α] {v : Fin 64 → α} {a b : Fin 64} (ha : IsFirst v a) (hb : IsFirst v b) : a = b := by
  rcases lt_trichotomy a b with h | h | h
  · exact absurd (hb.2 a h) (not_lt.mpr (ha.1 b))
  · exact h
  · exact absurd (ha.2 b h) (not_lt.mpr (hb.1 a))

theorem exists_first {α : Type} [LinearOrder α] (v : Fin 64 → α) : ∃ e, IsFirst v e := by
  obtain ⟨a, -, ha⟩ := Finset.exists_max_image Finset.univ v ⟨0, Finset.mem_univ _⟩
  let S : Finset (Fin 64) := Finset.univ.filter fun e => v e = v a
  have hS : S.Nonempty := ⟨a, by simp [S]⟩
  have hm : v (S.min' hS) = v a := (Finset.mem_filter.mp (S.min'_mem hS)).2
  refine ⟨S.min' hS, fun j => by rw [hm]; exact ha j (Finset.mem_univ _), fun j hj => ?_⟩
  rw [hm]
  refine lt_of_le_of_ne (ha j (Finset.mem_univ _)) fun e => ?_
  exact absurd (S.min'_le j (Finset.mem_filter.mpr ⟨Finset.mem_univ _, e⟩)) (not_le.mpr hj)

def first (v : Fin 64 → EReal) : Fin 64 := (exists_first v).choose
theorem first_spec (v : Fin 64 → EReal) : IsFirst v (first v) := (exists_first v).choose_spec

/-- The row with its greatest entry masked. -/
def masked (v : Fin 64 → EReal) : Fin 64 → EReal := fun e => if e = first v then ⊥ else v e

def second (v : Fin 64 → EReal) : Fin 64 := first (masked v)

theorem second_ne (v : Fin 64 → EReal) (hv : ∀ e, ⊥ < v e) : second v ≠ first v := by
  intro h
  have hs := (first_spec (masked v)).1
  obtain ⟨j, hj⟩ : ∃ j : Fin 64, j ≠ first v := exists_ne _
  have := hs j
  change masked v j ≤ masked v (second v) at this
  unfold masked at this
  rw [if_neg hj, if_pos h] at this
  exact absurd this (not_le.mpr (hv j))

/-- The second choice: nobody but the first is above it, and nobody else before it as high. -/
theorem second_spec (v : Fin 64 → EReal) (hv : ∀ e, ⊥ < v e) :
    (∀ j, j ≠ first v → v j ≤ v (second v)) ∧ ∀ j, j ≠ first v → j < second v → v j < v (second v) := by
  have hne := second_ne v hv
  have hs := first_spec (masked v)
  change IsFirst (masked v) (second v) at hs
  have e2 : masked v (second v) = v (second v) := if_neg hne
  refine ⟨fun j hj => ?_, fun j hj hlt => ?_⟩
  · have := hs.1 j
    rwa [e2, masked, if_neg hj] at this
  · have := hs.2 j hlt
    rwa [e2, masked, if_neg hj] at this

/-- The choice in slot `s`. -/
def pick (v : Fin 64 → EReal) (s : Fin 2) : Fin 64 := if s = 0 then first v else second v

/-- Whether an expert is one of the two chosen. -/
def Chosen (v : Fin 64 → EReal) (e : Fin 64) : Prop := e = first v ∨ e = second v

instance (v : Fin 64 → EReal) (e : Fin 64) : Decidable (Chosen v e) := by unfold Chosen; infer_instance

/-! ## Ranks under a stable sort -/

/-- A stable sort of the positions by a relation is the sort by it and then by position. -/
theorem stableSort_of_positions {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_of_positions R R' h l hl.2]
    exact insertBefore_congr R R' a _ fun b hb => h a b (hl.1 b ((perm_stableSort R' l).mem_iff.mp hb))

theorem sortedFrom_of_positions {n : ℕ} (R R' : Fin n → Fin n → Bool) (h : ∀ a b, a < b → R b a = R' b a) :
    sortedFrom R = sortedFrom R' := by
  have e : sortPositions n R = sortPositions n R' := stableSort_of_positions R R' h _ (List.pairwise_lt_finRange n)
  funext k
  unfold sortedFrom
  rw [List.get_of_eq e]
  rfl

/-- The position a sort puts at `r` has `r` positions before it. -/
theorem card_before_sortedFrom {n : ℕ} {B : Fin n → Fin n → Bool} (hB : StrictTotalBefore B) (r : Fin n) :
    (Finset.univ.filter fun j => B j (sortedFrom B r) = true).card = r.val := by
  have hlt : ∀ s r : Fin n, B (sortedFrom B s) (sortedFrom B r) = true ↔ s < r := by
    have hno := fun i j hij => sortedFrom_noInversion B B (fun a b h => hB.asymm a b h) (fun _ _ h => h) hB.negTrans i j hij
    intro s r
    constructor
    · intro h
      by_contra hsr
      rcases (not_lt.mp hsr).lt_or_eq with h' | h'
      · rw [hno r s h'] at h; exact absurd h (by decide)
      · rw [h', hB.irrefl] at h; exact absurd h (by decide)
    · intro h
      rcases hB.total _ _ fun e => absurd (sortedFrom_injective B e) (ne_of_lt h) with h' | h'
      · exact h'
      · rw [hno s r h] at h'; exact absurd h' (by decide)
  have e : (Finset.univ.filter fun j => B j (sortedFrom B r) = true) = (Finset.univ.filter fun s : Fin n => s < r).image (sortedFrom B) := by
    ext j
    obtain ⟨s, rfl⟩ := sortedFrom_surjective B j
    simp only [Finset.mem_filter, Finset.mem_univ, true_and, Finset.mem_image]
    rw [hlt]
    exact ⟨fun h => ⟨s, h, rfl⟩, fun ⟨s', h, e⟩ => sortedFrom_injective B e ▸ h⟩
  rw [e, Finset.card_image_of_injective _ (sortedFrom_injective B)]
  have : (Finset.univ.filter fun s : Fin n => s < r) = Finset.Iio r := by ext s; simp
  rw [this, Fin.card_Iio]

/-- A key and then the position. -/
def byKey {n : ℕ} (K : Fin n → ℕ) : Fin n → Fin n → Bool := fun a b => decide (K a < K b) || (decide (K a = K b) && decide (a < b))

theorem byKey_total {n : ℕ} (K : Fin n → ℕ) : StrictTotalBefore (byKey K) :=
  StrictTotalBefore.of_key_then_position (fun a b : ℕ => decide (a < b)) K (fun a => by simp) (fun a b c h h' => by
    simp only [decide_eq_true_eq] at h h' ⊢; omega) fun a b => by simp only [decide_eq_true_eq]; omega

/-- A count over `Fin n` as a count over the naturals below `n`. -/
theorem card_filter_fin (n : ℕ) (p : ℕ → Prop) [DecidablePred p] : (Finset.univ.filter fun j : Fin n => p j.val).card = Nat.count p n := by
  rw [Nat.count_eq_card_filter_range, Finset.range_eq_Ico, ← Finset.card_map Fin.valEmbedding]
  congr 1
  ext x
  simp only [Finset.mem_map, Finset.mem_filter, Finset.mem_univ, true_and, Fin.valEmbedding_apply, Finset.mem_Ico, Nat.zero_le]
  exact ⟨fun ⟨a, ha, e⟩ => e ▸ ⟨a.isLt, ha⟩, fun ⟨hx, hp⟩ => ⟨⟨x, hx⟩, hp, rfl⟩⟩

/-- The position a stable sort by a key puts at `r`: as many smaller keys, and as many equal ones before it. -/
theorem sorted_rank {n : ℕ} (K : ℕ → ℕ) (r : Fin n) :
    r.val = Nat.count (fun j => K j < K (sortedFrom (byKey fun a : Fin n => K a) r).val) n
      + Nat.count (fun j => K j = K (sortedFrom (byKey fun a : Fin n => K a) r).val) (sortedFrom (byKey fun a : Fin n => K a) r).val := by
  have h := card_before_sortedFrom (byKey_total fun a : Fin n => K a) r
  set i := sortedFrom (byKey fun a : Fin n => K a) r with hi
  rw [← h, ← card_filter_fin n, Nat.count_eq_card_filter_range]
  have e : (Finset.univ.filter fun j : Fin n => byKey (fun a : Fin n => K a) j i = true)
      = (Finset.univ.filter fun j : Fin n => K j.val < K i.val) ∪ (Finset.univ.filter fun j : Fin n => K j.val = K i.val ∧ j < i) := by
    ext j
    simp [byKey]
  rw [e, Finset.card_union_of_disjoint]
  · congr 1
    rw [← Finset.card_map Fin.valEmbedding]
    congr 1
    ext x
    simp only [Finset.mem_map, Finset.mem_filter, Finset.mem_univ, true_and, Fin.valEmbedding_apply, Finset.mem_range]
    exact ⟨fun ⟨a, ha, e⟩ => e ▸ ⟨ha.2, ha.1⟩, fun ⟨hx, hp⟩ => ⟨⟨x, hx.trans i.isLt⟩, ⟨hp, hx⟩, rfl⟩⟩
  · rw [Finset.disjoint_left]
    intro j h1 h2
    simp only [Finset.mem_filter, Finset.mem_univ, true_and] at h1 h2
    omega

/-- Sorting the positions a sort produced undoes the sort. -/
theorem sorted_inverse {n : ℕ} (σ : Fin n → Fin n) (hσ : Function.Injective σ) (i : Fin n) :
    σ (sortedFrom (fun a b => decide (σ a < σ b)) i) = i := by
  have hB : StrictTotalBefore fun a b => decide (σ a < σ b) :=
    { irrefl := fun k => by simp
      trans := fun a b c h h' => by simp only [decide_eq_true_eq] at h h' ⊢; exact h.trans h'
      total := fun a b hne => by
        simp only [decide_eq_true_eq]
        exact lt_or_gt_of_ne fun e => hne (hσ e) }
  have h := card_before_sortedFrom hB i
  simp only [decide_eq_true_eq] at h
  set x := σ (sortedFrom (fun a b => decide (σ a < σ b)) i) with hx
  have hs : Function.Surjective σ := Finite.surjective_of_injective hσ
  have e : (Finset.univ.filter fun j => σ j < x).image σ = Finset.Iio x := by
    ext y
    obtain ⟨j, rfl⟩ := hs y
    simp only [Finset.mem_image, Finset.mem_filter, Finset.mem_univ, true_and, Finset.mem_Iio]
    exact ⟨fun ⟨k, h, e⟩ => e ▸ h, fun h => ⟨j, h, rfl⟩⟩
  rw [← Finset.card_image_of_injective _ hσ, e, Fin.card_Iio] at h
  exact Fin.ext h

/-! ## Capacity -/

/-- Of the requests in order, those with fewer than `c` before them are as many as fit. -/
theorem count_fits (p : ℕ → Prop) [DecidablePred p] (c : ℕ) :
    ∀ n, Nat.count (fun i => p i ∧ Nat.count p i < c) n = min (Nat.count p n) c
  | 0 => by simp
  | n + 1 => by
    rw [Nat.count_succ, Nat.count_succ, count_fits p c n]
    by_cases hp : p n
    · by_cases hc : Nat.count p n < c
      · rw [if_pos ⟨hp, hc⟩, if_pos hp]; omega
      · rw [if_neg fun h => hc h.2, if_pos hp]; omega
    · rw [if_neg fun h => hp h.1, if_neg hp]; omega

/-! ## The requests of all tokens in one list -/

/-- The choices of all tokens in one list, two per token. -/
def flat (v : ℕ → Fin 64 → EReal) (i : ℕ) : Fin 64 := pick (v (i / 2)) (if i % 2 = 0 then 0 else 1)

theorem flat_even (v : ℕ → Fin 64 → EReal) (t : ℕ) : flat v (2 * t) = first (v t) := by
  unfold flat pick
  rw [show 2 * t / 2 = t by omega, if_pos (show 2 * t % 2 = 0 by omega), if_pos rfl]

theorem flat_odd (v : ℕ → Fin 64 → EReal) (t : ℕ) : flat v (2 * t + 1) = second (v t) := by
  unfold flat pick
  rw [show (2 * t + 1) / 2 = t by omega, if_neg (show ¬(2 * t + 1) % 2 = 0 by omega), if_neg (by decide)]

theorem flat_slot (v : ℕ → Fin 64 → EReal) (t : ℕ) (s : Fin 2) : flat v (2 * t + s.val) = pick (v t) s := by
  match s with
  | 0 => exact flat_even v t
  | 1 => exact flat_odd v t

theorem count_flat (v : ℕ → Fin 64 → EReal) (hv : ∀ t e, ⊥ < v t e) (e : Fin 64) :
    ∀ t, Nat.count (fun i => flat v i = e) (2 * t) = Nat.count (fun t => Chosen (v t) e) t
  | 0 => by simp
  | t + 1 => by
    rw [show 2 * (t + 1) = 2 * t + 1 + 1 by ring, Nat.count_succ, Nat.count_succ, Nat.count_succ, count_flat v hv e t, flat_even, flat_odd]
    have hne := second_ne (v t) (hv t)
    have hc : Chosen (v t) e ↔ e = first (v t) ∨ e = second (v t) := Iff.rfl
    by_cases h1 : first (v t) = e
    · rw [if_pos h1, if_neg fun h => hne (h.trans h1.symm), if_pos (hc.mpr (Or.inl h1.symm))]
    · by_cases h2 : second (v t) = e
      · rw [if_neg h1, if_pos h2, if_pos (hc.mpr (Or.inr h2.symm))]
      · rw [if_neg h1, if_neg h2, if_neg (fun h => (hc.mp h).elim (fun h => h1 h.symm) fun h => h2 h.symm)]

/-- Requests for an expert before one for it: the earlier tokens that chose it. -/
theorem count_flat_slot (v : ℕ → Fin 64 → EReal) (hv : ∀ t e, ⊥ < v t e) (t : ℕ) (s : Fin 2) :
    Nat.count (fun i => flat v i = pick (v t) s) (2 * t + s.val) = Nat.count (fun t' => Chosen (v t') (pick (v t) s)) t := by
  match s with
  | 0 => exact count_flat v hv _ t
  | 1 =>
    show Nat.count (fun i => flat v i = second (v t)) (2 * t + 1) = _
    rw [Nat.count_succ, flat_even, if_neg fun h => second_ne (v t) (hv t) h.symm]
    exact count_flat v hv _ t

end Cert.Route

end
-- ==== Proof.Literals.lean ====
/- The constants the two programs name, as numbers, and the tests on single bits as propositions. -/
module

public import Idealize.ShloMosaic.PureOps.Ideal
public import Idealize.ShloMosaic.PureOps.Ideal.Laws
public import Idealize.ShloMosaic.Lib.IdealHost

@[expose] public section

noncomputable section

namespace Cert.Literals

open Idealize.ShloMosaic

theorem negInf : Ideal.ofBits .f32 0xFF800000#32 = ⊥ := by
  simp [Ideal.ofBits, Ideal.ieee]
theorem posInf : Ideal.ofBits .f32 0x7F800000#32 = ⊤ := by
  simp [Ideal.ofBits, Ideal.ieee]
theorem capacity : Ideal.ofBits .f32 0x44A00000#32 = ((1280 : ℝ) : EReal) := by
  simp [Ideal.ofBits, Ideal.ieee, -EReal.coe_mul]; norm_num
theorem requests : Ideal.ofBits .f32 0x47800000#32 = ((65536 : ℝ) : EReal) := by
  simp [Ideal.ofBits, Ideal.ieee, -EReal.coe_mul]; norm_num
theorem tokens : Ideal.ofBits .f32 0x47000000#32 = ((32768 : ℝ) : EReal) := by
  simp [Ideal.ofBits, Ideal.ieee, -EReal.coe_mul]; norm_num
theorem experts : Ideal.ofBits .f32 0x42800000#32 = ((64 : ℝ) : EReal) := by
  simp [Ideal.ofBits, Ideal.ieee, -EReal.coe_mul]; norm_num
theorem share : Ideal.ofBits .f32 0x3C800000#32 = ((1 / 64 : ℝ) : EReal) := by
  simp [Ideal.ofBits, Ideal.ieee, -EReal.coe_mul]; norm_num

/-- The floor under the sum of two probabilities, a number not above 1/64. -/
theorem floor_le : Ideal.ofBits .f32 0x358637BD#32 ≤ ((1 / 64 : ℝ) : EReal) := by
  simp [Ideal.ofBits, Ideal.ieee, -EReal.coe_mul]; norm_num

theorem select_iff {α : Type} {c : BitVec 1} {p : Prop} [Decidable p] (h : c = 1#1 ↔ p) (a b : α) :
    Scalar.select c a b = if p then a else b := by
  change (if c = 1#1 then a else b) = _
  by_cases hp : p
  · rw [if_pos hp, if_pos (h.mpr hp)]
  · rw [if_neg hp, if_neg fun e => hp (h.mp e)]

theorem ofBool_iff (p : Prop) [Decidable p] : BitVec.ofBool (decide p) = 1#1 ↔ p := by
  by_cases hp : p <;> simp [hp]

theorem cmpi_eq_iff {w : ℕ} (a b : BitVec w) : IntOp.cmpi .eq a b = 1#1 ↔ a = b := by
  change BitVec.ofBool (a == b) = 1#1 ↔ _
  by_cases h : a = b
  · simp [h]
  · rw [beq_eq_false_iff_ne.mpr h]; simp [h]

theorem cmpi_slt_iff {w : ℕ} (a b : BitVec w) : IntOp.cmpi .slt a b = 1#1 ↔ a.toInt < b.toInt := by
  change BitVec.ofBool (decide (a.toInt < b.toInt)) = 1#1 ↔ _
  exact ofBool_iff _

theorem ori_iff (a b : BitVec 1) : IntOp.ori a b = 1#1 ↔ a = 1#1 ∨ b = 1#1 := by
  revert a b; decide

theorem andi_iff (a b : BitVec 1) : IntOp.andi a b = 1#1 ↔ a = 1#1 ∧ b = 1#1 := by
  revert a b; decide

end Cert.Literals

end
-- ==== Proof.Column.lean ====
/- The chunk's operations read at an index, over the ideal values. -/
module

public import proofs.«01_k».proof.Proof.Chunk
public import proofs.«01_k».proof.Proof.Route
public import proofs.«01_k».proof.Proof.Literals
public import Idealize.ShloMosaic.Lib.Pointwise

@[expose] public section

noncomputable section

namespace Cert.KernelIdeal.Chunk

open Cert.KernelIdeal Cert.KernelIdeal.Gen Idealize.ShloMosaic

theorem logits_apply (w : Vec Ideal S64x768 .f32) (b : Vec Ideal S64x1 .f32) (xc : Vec Ideal S128x768 .f32) (e : Fin 64) (j : Fin 128) :
    logits (F := Ideal) w b xc (ix2 e j) = (∑ k : Fin 768, w (ix2 e k) * xc (ix2 j k)) + b (ix2 e 0) := by
  unfold logits
  pointwise

theorem colMax_apply (lg : FVec Ideal S64x128 .f32) (j : Fin 128) :
    colMax (F := Ideal) lg (ix2 0 j) = Finset.univ.fold max ⊥ fun e : Fin 64 => lg (ix2 e j) := by
  unfold colMax
  pointwise
  rw [Literals.negInf]

theorem firstMax_apply (lg : FVec Ideal S64x128 .f32) (j : Fin 128) :
    firstMax (F := Ideal) lg (ix2 0 j) = Finset.univ.fold IntOp.minsi 2147483647#32 fun e : Fin 64 =>
      if lg (ix2 e j) = colMax (F := Ideal) lg (ix2 0 j) then BitVec.ofNat 32 e.val else 64#32 := by
  unfold firstMax rows
  pointwise

theorem rest_apply (lg : FVec Ideal S64x128 .f32) (e : Fin 64) (j : Fin 128) :
    rest (F := Ideal) lg (ix2 e j) = if BitVec.ofNat 32 e.val = firstMax (F := Ideal) lg (ix2 0 j) then ⊥ else lg (ix2 e j) := by
  unfold rest hot rows
  pointwise
  rw [(IdealRules.named_const.statement κ "mask" .f32 0xFF61B1E6#32 ⊥ rfl).2.2, Literals.select_iff (Literals.cmpi_eq_iff _ _)]

theorem hot_apply (h : IVec S1x128 32) (e : Fin 64) (j : Fin 128) :
    hot h (ix2 e j) = 1#1 ↔ BitVec.ofNat 32 e.val = h (ix2 0 j) := by
  unfold hot rows
  pointwise
  exact Literals.cmpi_eq_iff _ _

theorem weight0_apply (lg : FVec Ideal S64x128 .f32) (j : Fin 128) :
    weight0 (F := Ideal) lg (ix2 0 j) = Ideal.div 1 (1 + ratio (F := Ideal) lg (ix2 0 j)) := by
  unfold weight0
  pointwise

theorem impStep_apply (acc lg : FVec Ideal S64x128 .f32) (e : Fin 64) (j : Fin 128) :
    impStep (F := Ideal) acc lg (ix2 e j) = acc (ix2 e j) + Ideal.exp (lg (ix2 e j) - colMax (F := Ideal) lg (ix2 0 j))
      * Ideal.div 1 (∑ e' : Fin 64, Ideal.exp (lg (ix2 e' j) - colMax (F := Ideal) lg (ix2 0 j))) := by
  unfold impStep exps
  pointwise

theorem chosen_apply (lg : FVec Ideal S64x128 .f32) (e : Fin 64) (j : Fin 128) :
    chosen (F := Ideal) lg (ix2 e j) = if hot0 (F := Ideal) lg (ix2 e j) = 1#1 ∨ hot1 (F := Ideal) lg (ix2 e j) = 1#1 then 1 else 0 := by
  unfold chosen
  pointwise
  exact Literals.select_iff (Literals.ori_iff _ _) _ _

theorem earlier_apply (lt : Vec Ideal S128x128 .f32) (lg : FVec Ideal S64x128 .f32) (e : Fin 64) (j : Fin 128) :
    earlier (F := Ideal) lt lg (ix2 e j) = ∑ i : Fin 128, chosen (F := Ideal) lg (ix2 e i) * lt (ix2 i j) := by
  unfold earlier
  pointwise

theorem room_apply (lt : Vec Ideal S128x128 .f32) (cnt : FVec Ideal S64x1 .f32) (lg : FVec Ideal S64x128 .f32) (e : Fin 64) (j : Fin 128) :
    room (F := Ideal) lt cnt lg (ix2 e j) = 1#1 ↔ cnt (ix2 e 0) + earlier (F := Ideal) lt lg (ix2 e j) < ((1280 : ℝ) : EReal) := by
  unfold room
  pointwise
  rw [Literals.capacity]
  exact Literals.ofBool_iff _

/-- A row of the column is set. -/
theorem anyRow_apply (h : IVec S64x128 1) (j : Fin 128) :
    anyRow (F := Ideal) h (ix2 0 j) = 1#1 ↔ ∃ e : Fin 64, h (ix2 e j) = 1#1 := by
  unfold anyRow
  pointwise
  rw [Literals.negInf, Literals.ofBool_iff, Finset.lt_fold_max]
  constructor
  · rintro (h' | ⟨e, -, h'⟩)
    · exact absurd h' (by simp)
    · refine ⟨e, by_contra fun hn => ?_⟩
      rw [Literals.select_iff Iff.rfl, if_neg hn] at h'
      exact absurd h' (lt_irrefl _)
  · rintro ⟨e, he⟩
    refine Or.inr ⟨e, Finset.mem_univ _, ?_⟩
    rw [Literals.select_iff Iff.rfl, if_pos he]
    exact zero_lt_one

theorem idxOut_apply0 (lt : Vec Ideal S128x128 .f32) (cnt : FVec Ideal S64x1 .f32) (lg : FVec Ideal S64x128 .f32) (j : Fin 128) :
    idxOut (F := Ideal) lt cnt lg (ix2 0 j) = Scalar.select (keep0 (F := Ideal) lt cnt lg (ix2 0 j)) (firstMax (F := Ideal) lg (ix2 0 j)) 4294967295#32 := by
  unfold idxOut
  pointwise

theorem idxOut_apply1 (lt : Vec Ideal S128x128 .f32) (cnt : FVec Ideal S64x1 .f32) (lg : FVec Ideal S64x128 .f32) (j : Fin 128) :
    idxOut (F := Ideal) lt cnt lg (ix2 1 j) = Scalar.select (keep1 (F := Ideal) lt cnt lg (ix2 0 j)) (firstMax (F := Ideal) (rest (F := Ideal) lg) (ix2 0 j)) 4294967295#32 := by
  unfold idxOut
  pointwise

theorem wtOut_apply0 (lt : Vec Ideal S128x128 .f32) (cnt : FVec Ideal S64x1 .f32) (lg : FVec Ideal S64x128 .f32) (j : Fin 128) :
    wtOut (F := Ideal) lt cnt lg (ix2 0 j) = Scalar.select (keep0 (F := Ideal) lt cnt lg (ix2 0 j)) (weight0 (F := Ideal) lg (ix2 0 j)) 0 := by
  unfold wtOut
  pointwise

theorem wtOut_apply1 (lt : Vec Ideal S128x128 .f32) (cnt : FVec Ideal S64x1 .f32) (lg : FVec Ideal S64x128 .f32) (j : Fin 128) :
    wtOut (F := Ideal) lt cnt lg (ix2 1 j) = Scalar.select (keep1 (F := Ideal) lt cnt lg (ix2 0 j)) (weight1 (F := Ideal) lg (ix2 0 j)) 0 := by
  unfold wtOut
  pointwise

theorem ratio_apply (lg : FVec Ideal S64x128 .f32) (j : Fin 128) : ratio (F := Ideal) lg (ix2 0 j)
    = Ideal.exp (colMax (F := Ideal) (rest (F := Ideal) lg) (ix2 0 j) - colMax (F := Ideal) lg (ix2 0 j)) := by
  unfold ratio
  pointwise

theorem weight1_apply (lg : FVec Ideal S64x128 .f32) (j : Fin 128) :
    weight1 (F := Ideal) lg (ix2 0 j) = ratio (F := Ideal) lg (ix2 0 j) * weight0 (F := Ideal) lg (ix2 0 j) := by
  unfold weight1
  pointwise

theorem spread_apply (v : FVec Ideal S64x1 .f32) : spread (F := Ideal) v (ix2 0 0)
    = Ideal.div (∑ e : Fin 64, (v (ix2 e 0) - ((1 / 64 : ℝ) : EReal)) * (v (ix2 e 0) - ((1 / 64 : ℝ) : EReal))) ((64 : ℝ) : EReal) := by
  unfold spread
  pointwise
  rw [Literals.experts, Literals.share]

theorem kept_apply (cnt : FVec Ideal S64x1 .f32) (e : Fin 64) : kept (F := Ideal) cnt (ix2 e 0) = min (cnt (ix2 e 0)) ((1280 : ℝ) : EReal) := by
  unfold kept
  pointwise
  rw [Literals.capacity]

theorem loadOut_apply (cnt : FVec Ideal S64x1 .f32) : loadOut (F := Ideal) cnt (ix2 0 0)
    = Ideal.div (∑ e : Fin 64, (Ideal.div (min (cnt (ix2 e 0)) ((1280 : ℝ) : EReal)) ((65536 : ℝ) : EReal) - ((1 / 64 : ℝ) : EReal))
      * (Ideal.div (min (cnt (ix2 e 0)) ((1280 : ℝ) : EReal)) ((65536 : ℝ) : EReal) - ((1 / 64 : ℝ) : EReal))) ((64 : ℝ) : EReal) := by
  unfold loadOut
  rw [spread_apply]
  pointwise
  simp only [kept_apply, Literals.requests]

theorem importanceOut_apply (acc : FVec Ideal S64x128 .f32) : importanceOut (F := Ideal) acc (ix2 0 0)
    = Ideal.div (∑ e : Fin 64, (Ideal.div (∑ j : Fin 128, acc (ix2 e j)) ((32768 : ℝ) : EReal) - ((1 / 64 : ℝ) : EReal))
      * (Ideal.div (∑ j : Fin 128, acc (ix2 e j)) ((32768 : ℝ) : EReal) - ((1 / 64 : ℝ) : EReal))) ((64 : ℝ) : EReal) := by
  unfold importanceOut
  rw [spread_apply]
  pointwise
  simp only [Literals.tokens]

theorem overflowOut_apply (cnt : FVec Ideal S64x1 .f32) : overflowOut (F := Ideal) cnt (ix2 0 0)
    = Ideal.div (((65536 : ℝ) : EReal) - ∑ e : Fin 64, min (cnt (ix2 e 0)) ((1280 : ℝ) : EReal)) ((65536 : ℝ) : EReal) := by
  unfold overflowOut
  pointwise
  simp only [kept_apply, Literals.requests]

theorem cntStep_apply (lt : Vec Ideal S128x128 .f32) (cnt : FVec Ideal S64x1 .f32) (lg : FVec Ideal S64x128 .f32) (e : Fin 64) :
    cntStep (F := Ideal) lt cnt lg (ix2 e 0) = (cnt (ix2 e 0) + earlier (F := Ideal) lt lg (ix2 e 127)) + chosen (F := Ideal) lg (ix2 e 127) := by
  unfold cntStep
  pointwise

end Cert.KernelIdeal.Chunk

end
-- ==== Proof.Words.lean ====
/- The words of the kernel's constant matrix: the pattern of one above the diagonal, of zero elsewhere. -/
module

public import proofs.«01_k».proof.KernelIdeal

@[expose] public section

noncomputable section

namespace Cert.KernelIdeal.Chunk

open Cert.KernelIdeal Idealize.ShloMosaic

/-- The matrix's words, row by row. -/
theorem words_before : ∀ i j : Fin 128, lit0t (i.val * 128 + j.val) = bif decide (i.val < j.val) then 0x3F800000#32 else 0x00000000#32 := by
  decide +kernel

end Cert.KernelIdeal.Chunk

end
-- ==== Proof.Before.lean ====
/- The kernel's constant matrix: ones above the diagonal. -/
module

public import proofs.«01_k».proof.Proof.Arrays
public import proofs.«01_k».proof.Proof.Words
public import Idealize.ShloMosaic.Lib.Pointwise

@[expose] public section

noncomputable section

namespace Cert.KernelIdeal.Chunk

open Cert.KernelIdeal Cert.KernelIdeal.Gen Idealize.ShloMosaic

theorem place_before (i j : Fin 128) : (S128x128.rowMajor (ix2 i j)).val = i.val * 128 + j.val := by
  show (Shape.rowMajorPi _ _).val = _
  rw [Shape.rowMajorPi_succ_val, Shape.rowMajorPi_succ_val]
  simp [ix2, Shape.rowMajorPi, Shape.rankPi]

theorem before_apply (i j : Fin 128) : before (F := Ideal) (ix2 i j) = if i.val < j.val then 1 else 0 := by
  have h : before (F := Ideal) (ix2 i j) = Ideal.ofBits .f32 (bif decide (i.val < j.val) then 0x3F800000#32 else 0x00000000#32) :=
    congrArg (Ideal.ofBits .f32) ((congrArg lit0t (place_before i j)).trans (words_before i j))
  rw [h]
  by_cases hij : i.val < j.val
  · rw [if_pos hij, decide_eq_true hij]; exact Ideal.ofBits_one_f32
  · rw [if_neg hij, decide_eq_false hij]; exact Ideal.ofBits_zero_f32

end Cert.KernelIdeal.Chunk

end
-- ==== Proof.Choice.lean ====
/- A chunk's column in the words of the routing: the kernel's two choices are the first two of the column, and the counts it
   carries are the numbers of earlier tokens that chose each expert. -/
module

public import proofs.«01_k».proof.Proof.Column
public import proofs.«01_k».proof.Proof.Before

@[expose] public section

noncomputable section

namespace Cert.Route

open Idealize.ShloMosaic

theorem fold_max_first (v : Fin 64 → EReal) : Finset.univ.fold max ⊥ v = v (first v) := by
  refine le_antisymm (Finset.fold_max_le _ |>.mpr ⟨bot_le, fun j _ => (first_spec v).1 j⟩) ?_
  exact (Finset.le_fold_max _).mpr (Or.inr ⟨first v, Finset.mem_univ _, le_rfl⟩)

theorem toInt_ofNat (n : ℕ) (h : n < 2 ^ 31) : (BitVec.ofNat 32 n).toInt = n := by
  rw [BitVec.toInt_eq_toNat_of_lt (by rw [BitVec.toNat_ofNat]; omega), BitVec.toNat_ofNat]; omega

theorem ofNat_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat] at this
    omega
  · exact fun h => h ▸ rfl

theorem expert_inj (a b : Fin 64) : BitVec.ofNat 32 a.val = BitVec.ofNat 32 b.val ↔ a = b :=
  (ofNat_inj (by omega) (by omega)).trans Fin.ext_iff.symm

theorem toInt_minsi (a b : BitVec 32) : (IntOp.minsi a b).toInt = min a.toInt b.toInt := by
  unfold IntOp.minsi
  simp only [BitVec.slt]
  split <;> rename_i h <;> simp at h <;> omega

/-- The least position among those that hold the greatest entry is the first such. -/
theorem fold_minsi_first (v : Fin 64 → EReal) :
    Finset.univ.fold IntOp.minsi 2147483647#32 (fun e : Fin 64 => if v e = v (first v) then BitVec.ofNat 32 e.val else 64#32)
      = BitVec.ofNat 32 (first v).val := by
  set f : Fin 64 → BitVec 32 := fun e => if v e = v (first v) then BitVec.ofNat 32 e.val else 64#32 with hf
  have key : ∀ c : BitVec 32, c.toInt ≤ (Finset.univ.fold IntOp.minsi 2147483647#32 f).toInt
      ↔ c.toInt ≤ (2147483647#32 : BitVec 32).toInt ∧ ∀ x ∈ Finset.univ, c.toInt ≤ (f x).toInt := fun c =>
    Finset.fold_op_rel_iff_and (r := fun a b : BitVec 32 => a.toInt ≤ b.toInt) (op := IntOp.minsi)
      (fun {x y z} => by rw [toInt_minsi, le_min_iff]) (c := c)
  have e1 : f (first v) = BitVec.ofNat 32 (first v).val := if_pos rfl
  have h1 : (first v).val < 64 := (first v).isLt
  refine BitVec.eq_of_toInt_eq (le_antisymm ?_ ?_)
  · rw [← e1]
    exact ((key _).mp le_rfl).2 _ (Finset.mem_univ _)
  · refine (key _).mpr ⟨?_, fun x _ => ?_⟩
    · rw [toInt_ofNat _ (by omega)]
      have : (2147483647#32 : BitVec 32).toInt = 2147483647 := by decide
      omega
    · rw [toInt_ofNat _ (by omega)]
      simp only [hf]
      split
      · rename_i h
        rw [toInt_ofNat _ (by omega)]
        have : ¬ x < first v := fun hlt => absurd h (ne_of_lt ((first_spec v).2 x hlt))
        omega
      · have : (64#32 : BitVec 32).toInt = 64 := by decide
        omega

end Cert.Route

namespace Cert.KernelIdeal.Chunk

open Cert.KernelIdeal Cert.KernelIdeal.Gen Idealize.ShloMosaic Cert.Route

/-- A column of a chunk. -/
def col (lg : FVec Ideal S64x128 .f32) (j : Fin 128) : Fin 64 → EReal := fun e => lg (ix2 e j)

variable (lg : FVec Ideal S64x128 .f32) (j : Fin 128)

theorem colMax_col : colMax (F := Ideal) lg (ix2 0 j) = col lg j (first (col lg j)) := by
  rw [colMax_apply]; exact fold_max_first _

theorem firstMax_col : firstMax (F := Ideal) lg (ix2 0 j) = BitVec.ofNat 32 (first (col lg j)).val := by
  rw [firstMax_apply, colMax_col]
  exact fold_minsi_first (col lg j)

theorem rest_col : col (rest (F := Ideal) lg) j = masked (col lg j) := by
  funext e
  show rest (F := Ideal) lg (ix2 e j) = _
  rw [rest_apply, firstMax_col]
  unfold masked
  by_cases h : e = first (col lg j)
  · rw [if_pos h, if_pos ((expert_inj _ _).mpr h)]
  · rw [if_neg h, if_neg fun h' => h ((expert_inj _ _).mp h')]; rfl

theorem firstMax_rest_col : firstMax (F := Ideal) (rest (F := Ideal) lg) (ix2 0 j) = BitVec.ofNat 32 (second (col lg j)).val := by
  rw [firstMax_col, rest_col]; rfl

theorem hot0_col (e : Fin 64) : hot0 (F := Ideal) lg (ix2 e j) = 1#1 ↔ e = first (col lg j) := by
  unfold hot0
  rw [hot_apply, firstMax_col, expert_inj]

theorem hot1_col (e : Fin 64) : hot1 (F := Ideal) lg (ix2 e j) = 1#1 ↔ e = second (col lg j) := by
  unfold hot1
  rw [hot_apply, firstMax_rest_col, expert_inj]

theorem chosen_col (e : Fin 64) : chosen (F := Ideal) lg (ix2 e j) = if Chosen (col lg j) e then 1 else 0 := by
  rw [chosen_apply]
  refine if_congr ?_ rfl rfl
  rw [hot0_col, hot1_col]; rfl

variable (hlg : ∀ e, ⊥ < col lg j e)
include hlg

theorem ratio_col : ratio (F := Ideal) lg (ix2 0 j) = Ideal.exp (col lg j (second (col lg j)) - col lg j (first (col lg j))) := by
  rw [ratio_apply, colMax_col, colMax_col, rest_col]
  congr 2
  show masked (col lg j) (second (col lg j)) = _
  exact if_neg (second_ne _ hlg)

omit hlg

theorem keep0_col (lt : Vec Ideal S128x128 .f32) (cnt : FVec Ideal S64x1 .f32) :
    keep0 (F := Ideal) lt cnt lg (ix2 0 j) = 1#1
      ↔ cnt (ix2 (first (col lg j)) 0) + earlier (F := Ideal) lt lg (ix2 (first (col lg j)) j) < ((1280 : ℝ) : EReal) := by
  unfold keep0
  rw [anyRow_apply]
  constructor
  · rintro ⟨e, he⟩
    obtain ⟨h1, h2⟩ := (Literals.andi_iff _ _).mp he
    rw [hot0_col] at h1
    rw [room_apply] at h2
    exact h1 ▸ h2
  · exact fun h => ⟨_, (Literals.andi_iff _ _).mpr ⟨(hot0_col _ _ _).mpr rfl, (room_apply _ _ _ _ _).mpr h⟩⟩

theorem keep1_col (lt : Vec Ideal S128x128 .f32) (cnt : FVec Ideal S64x1 .f32) :
    keep1 (F := Ideal) lt cnt lg (ix2 0 j) = 1#1
      ↔ cnt (ix2 (second (col lg j)) 0) + earlier (F := Ideal) lt lg (ix2 (second (col lg j)) j) < ((1280 : ℝ) : EReal) := by
  unfold keep1
  rw [anyRow_apply]
  constructor
  · rintro ⟨e, he⟩
    obtain ⟨h1, h2⟩ := (Literals.andi_iff _ _).mp he
    rw [hot1_col] at h1
    rw [room_apply] at h2
    exact h1 ▸ h2
  · exact fun h => ⟨_, (Literals.andi_iff _ _).mpr ⟨(hot1_col _ _ _).mpr rfl, (room_apply _ _ _ _ _).mpr h⟩⟩

/-! ## The counts -/

/-- A sum of ones over the earlier places is a count. -/
theorem sum_count (p : ℕ → Prop) [DecidablePred p] (j : ℕ) (hj : j ≤ 128) :
    (∑ i : Fin 128, (if p i.val then (1 : EReal) else 0) * (if i.val < j then 1 else 0)) = ((Nat.count p j : ℕ) : EReal) := by
  have e : ∀ i : Fin 128, (if p i.val then (1 : EReal) else 0) * (if i.val < j then 1 else 0) = ((if p i.val ∧ i.val < j then 1 else 0 : ℕ) : EReal) := by
    intro i
    by_cases h1 : p i.val <;> by_cases h2 : i.val < j <;> simp [h1, h2]
  rw [Finset.sum_congr rfl fun i _ => e i, ← Nat.cast_sum, Finset.sum_boole, card_filter_fin 128 fun i => p i ∧ i < j]
  congr 1
  simp only [Nat.count_eq_card_filter_range, Nat.cast_id]
  congr 1
  ext x
  simp only [Finset.mem_filter, Finset.mem_range]
  exact ⟨fun ⟨_, a, b⟩ => ⟨b, a⟩, fun ⟨a, b⟩ => ⟨by omega, b, a⟩⟩

/-- The scores of a token, from the chunks' scores. -/
def row (lg : ℕ → FVec Ideal S64x128 .f32) (t : ℕ) : Fin 64 → EReal := col (lg (t / 128)) ⟨t % 128, Nat.mod_lt _ (by decide)⟩

theorem row_at (lg : ℕ → FVec Ideal S64x128 .f32) (q : ℕ) (j : Fin 128) : row lg (128 * q + j.val) = col (lg q) j := by
  have h1 : (128 * q + j.val) / 128 = q := by omega
  have h2 : (128 * q + j.val) % 128 = j.val := by omega
  unfold row
  rw [h1]
  congr 1
  exact Fin.ext h2

theorem earlier_row (lg : ℕ → FVec Ideal S64x128 .f32) (q : ℕ) (e : Fin 64) (j : Fin 128) :
    earlier (F := Ideal) before (lg q) (ix2 e j) = ((Nat.count (fun i => Chosen (row lg (128 * q + i)) e) j.val : ℕ) : EReal) := by
  rw [earlier_apply, ← sum_count _ _ (by omega)]
  refine Finset.sum_congr rfl fun i _ => ?_
  rw [before_apply, chosen_col, row_at]

theorem cntUpTo_row (lg : ℕ → FVec Ideal S64x128 .f32) (e : Fin 64) : ∀ q : ℕ,
    cntUpTo (F := Ideal) lg q (ix2 e 0) = ((Nat.count (fun t => Chosen (row lg t) e) (128 * q) : ℕ) : EReal)
  | 0 => by
    show k0_pay11 (F := Ideal) (ix2 e 0) = _
    unfold k0_pay11
    pointwise
    simp
  | q + 1 => by
    show cntStep (F := Ideal) before (cntUpTo lg q) (lg q) (ix2 e 0) = _
    rw [cntStep_apply, cntUpTo_row lg e q, earlier_row, chosen_col, show 128 * (q + 1) = 128 * q + 127 + 1 by ring, Nat.count_succ, Nat.count_add,
      ← row_at lg q 127]
    push_cast
    rfl

theorem count_before (lg : ℕ → FVec Ideal S64x128 .f32) (q : ℕ) (e : Fin 64) (j : Fin 128) :
    cntUpTo (F := Ideal) lg q (ix2 e 0) + earlier (F := Ideal) before (lg q) (ix2 e j)
      = ((Nat.count (fun t => Chosen (row lg t) e) (128 * q + j.val) : ℕ) : EReal) := by
  rw [cntUpTo_row, earlier_row, Nat.count_add]
  push_cast
  rfl

end Cert.KernelIdeal.Chunk

end
-- ==== Proof.Spec.lean ====
/- What the router computes, from the scores of all tokens: the five results, in words neither program uses. -/
module

public import proofs.«01_k».proof.Proof.Route
public import Idealize.ShloMosaic.PureOps.Ideal
public import Idealize.ShloMosaic.Lib.Pointwise.Index

@[expose] public section

noncomputable section

namespace Cert.Route

open Idealize.ShloMosaic

/-- Whether slot `s` of token `t` has room: fewer than 1280 earlier tokens chose its expert. -/
def Room (v : ℕ → Fin 64 → EReal) (t : ℕ) (s : Fin 2) : Prop := Nat.count (fun t' => Chosen (v t') (pick (v t) s)) t < 1280

instance (v : ℕ → Fin 64 → EReal) (t : ℕ) (s : Fin 2) : Decidable (Room v t s) := by unfold Room; infer_instance

/-- The first result: the expert, or −1. -/
def expertOut (v : ℕ → Fin 64 → EReal) (t : ℕ) (s : Fin 2) : BitVec 32 :=
  if Room v t s then BitVec.ofNat 32 (pick (v t) s).val else 4294967295#32

/-- How the second score compares with the first. -/
def odds (v : Fin 64 → EReal) : EReal := Ideal.exp (v (second v) - v (first v))

/-- The weight of a slot: the two sum to one. -/
def weight (v : Fin 64 → EReal) (s : Fin 2) : EReal :=
  if s = 0 then Ideal.div 1 (1 + odds v) else odds v * Ideal.div 1 (1 + odds v)

/-- The second result: the weight, or 0. -/
def weightOut (v : ℕ → Fin 64 → EReal) (t : ℕ) (s : Fin 2) : EReal := if Room v t s then weight (v t) s else 0

/-- How many requests an expert takes. -/
def load (v : ℕ → Fin 64 → EReal) (e : Fin 64) : ℕ := min (Nat.count (fun t => Chosen (v t) e) 32768) 1280

/-- The mean squared distance to the even share. -/
def distance (p : Fin 64 → EReal) : EReal :=
  Ideal.div (∑ e : Fin 64, (p e - ((1 / 64 : ℝ) : EReal)) * (p e - ((1 / 64 : ℝ) : EReal))) ((64 : ℝ) : EReal)

/-- The third result. -/
def loadLoss (v : ℕ → Fin 64 → EReal) : EReal := distance fun e => Ideal.div ((load v e : ℕ) : EReal) ((65536 : ℝ) : EReal)

/-- The probability of an expert. -/
def prob (v : Fin 64 → EReal) (e : Fin 64) : EReal :=
  Ideal.exp (v e - v (first v)) * Ideal.div 1 (∑ e' : Fin 64, Ideal.exp (v e' - v (first v)))

/-- The fourth result. -/
def importanceLoss (v : ℕ → Fin 64 → EReal) : EReal :=
  distance fun e => Ideal.div (∑ t ∈ Finset.range 32768, prob (v t) e) ((32768 : ℝ) : EReal)

/-- The fifth result. -/
def overflow (v : ℕ → Fin 64 → EReal) : EReal :=
  Ideal.div (((65536 : ℝ) : EReal) - ∑ e : Fin 64, ((load v e : ℕ) : EReal)) ((65536 : ℝ) : EReal)

/-- The score of an expert for a token, of the tokens in one list. -/
def score (x : (⟨3, ![4, 8192, 768]⟩ : Shape).Idx → EReal) (w : (⟨2, ![64, 768]⟩ : Shape).Idx → EReal) (b : (⟨1, ![64]⟩ : Shape).Idx → EReal)
    (t : ℕ) (e : Fin 64) : EReal :=
  (∑ k : Fin 768, w (ix2 e k) * x (ix3 ⟨t / 8192 % 4, Nat.mod_lt _ (by decide)⟩ ⟨t % 8192, Nat.mod_lt _ (by decide)⟩ k)) + b (ix1 e)

end Cert.Route

end
-- ==== Proof.KernelResults.lean ====
/- The kernel's arrays are the router's results at the kernel's scores. -/
module

public import proofs.«01_k».proof.Proof.Choice
public import proofs.«01_k».proof.Proof.Spec

@[expose] public section

noncomputable section

namespace Cert.KernelIdeal.Chunk

open Cert.KernelIdeal Cert.KernelIdeal.Gen Idealize.ShloMosaic Idealize.SL.Sem Cert.Route

theorem cast_lt (n k : ℕ) : ((n : ℕ) : EReal) < ((k : ℝ) : EReal) ↔ n < k := by
  rw [show ((n : ℕ) : EReal) = ((n : ℝ) : EReal) by norm_cast, EReal.coe_lt_coe_iff, Nat.cast_lt]

theorem keep_row (lg : ℕ → FVec Ideal S64x128 .f32) (q : ℕ) (j : Fin 128) (e : Fin 64) :
    cntUpTo (F := Ideal) lg q (ix2 e 0) + earlier (F := Ideal) before (lg q) (ix2 e j) < ((1280 : ℝ) : EReal)
      ↔ Nat.count (fun t => Chosen (row lg t) e) (128 * q + j.val) < 1280 := by
  rw [count_before]
  exact_mod_cast cast_lt _ 1280

variable (lg : ℕ → FVec Ideal S64x128 .f32)

theorem keep0_row (q : ℕ) (j : Fin 128) :
    keep0 (F := Ideal) before (cntUpTo (F := Ideal) lg q) (lg q) (ix2 0 j) = 1#1 ↔ Room (row lg) (128 * q + j.val) 0 := by
  rw [keep0_col, keep_row, ← row_at]; exact Iff.rfl

theorem keep1_row (q : ℕ) (j : Fin 128) :
    keep1 (F := Ideal) before (cntUpTo (F := Ideal) lg q) (lg q) (ix2 0 j) = 1#1 ↔ Room (row lg) (128 * q + j.val) 1 := by
  rw [keep1_col, keep_row, ← row_at]; exact Iff.rfl

theorem idxOut_row (q : ℕ) (s : Fin 2) (j : Fin 128) :
    idxOut (F := Ideal) before (cntUpTo (F := Ideal) lg q) (lg q) (ix2 s j) = expertOut (row lg) (128 * q + j.val) s := by
  match s with
  | 0 =>
    refine (idxOut_apply0 _ _ _ j).trans ?_
    rw [Literals.select_iff (keep0_row lg q j), firstMax_col, ← row_at]
    rfl
  | 1 =>
    refine (idxOut_apply1 _ _ _ j).trans ?_
    rw [Literals.select_iff (keep1_row lg q j), firstMax_rest_col, ← row_at]
    rfl

theorem wtOut_row (hv : ∀ t e, ⊥ < row lg t e) (q : ℕ) (s : Fin 2) (j : Fin 128) :
    wtOut (F := Ideal) before (cntUpTo (F := Ideal) lg q) (lg q) (ix2 s j) = weightOut (row lg) (128 * q + j.val) s := by
  have hr : ratio (F := Ideal) (lg q) (ix2 0 j) = odds (row lg (128 * q + j.val)) := by
    rw [ratio_col (lg q) j fun e => row_at lg q j ▸ hv (128 * q + j.val) e, ← row_at]; rfl
  match s with
  | 0 =>
    refine (wtOut_apply0 _ _ _ j).trans ?_
    rw [Literals.select_iff (keep0_row lg q j), weight0_apply, hr]
    rfl
  | 1 =>
    refine (wtOut_apply1 _ _ _ j).trans ?_
    rw [Literals.select_iff (keep1_row lg q j), weight1_apply, weight0_apply, hr]
    rfl

theorem kept_row (e : Fin 64) : min (cntUpTo (F := Ideal) lg 256 (ix2 e 0)) ((1280 : ℝ) : EReal) = ((Route.load (row lg) e : ℕ) : EReal) := by
  rw [cntUpTo_row]
  unfold Route.load
  have h : ((1280 : ℝ) : EReal) = ((1280 : ℕ) : EReal) := by norm_cast
  rw [h]
  exact (Nat.mono_cast (α := EReal)).map_min.symm

theorem loadOut_row : loadOut (F := Ideal) (cntUpTo (F := Ideal) lg 256) (ix2 0 0) = loadLoss (row lg) := by
  rw [loadOut_apply]
  simp only [kept_row]
  rfl

theorem overflowOut_row : overflowOut (F := Ideal) (cntUpTo (F := Ideal) lg 256) (ix2 0 0) = overflow (row lg) := by
  rw [overflowOut_apply]
  simp only [kept_row]
  rfl

theorem impUpTo_row (e : Fin 64) : ∀ q : ℕ,
    ∑ j : Fin 128, impUpTo (F := Ideal) lg q (ix2 e j) = ∑ t ∈ Finset.range (128 * q), prob (row lg t) e
  | 0 => by
    refine (Finset.sum_eq_zero fun j _ => ?_).trans (by simp)
    show k0_pay12 (F := Ideal) (ix2 e j) = _
    unfold k0_pay12
    pointwise
  | q + 1 => by
    rw [show 128 * (q + 1) = 128 * q + 128 by ring, Finset.sum_range_add, ← impUpTo_row e q, Finset.sum_range, ← Finset.sum_add_distrib]
    refine Finset.sum_congr rfl fun j _ => ?_
    show impStep (F := Ideal) (impUpTo lg q) (lg q) (ix2 e j) = _
    rw [impStep_apply, colMax_col, row_at]
    rfl

theorem importanceOut_row : importanceOut (F := Ideal) (impUpTo (F := Ideal) lg 256) (ix2 0 0) = importanceLoss (row lg) := by
  rw [importanceOut_apply]
  simp only [impUpTo_row]
  rfl

end Cert.KernelIdeal.Chunk

end
-- ==== Proof.Flat.lean ====
/- Arrays laid out as one list: the tokens of all sequences, and the two requests of every token. -/
module

public import Idealize.ShloMosaic.Lib.Pointwise
public import Idealize.ShloMosaic.Lib.ValueLayout

@[expose] public section

namespace Cert.Flat

open Idealize.ShloMosaic

variable {α : Type}

theorem tokens (X : (⟨3, ![4, 8192, 768]⟩ : Shape).Idx → α) (h : (⟨3, ![4, 8192, 768]⟩ : Shape).ShapeCasts ⟨2, ![32768, 768]⟩)
    (q : Fin 32768) (k : Fin 768) : shapeCast ⟨2, ![32768, 768]⟩ X h (ix2 q k)
      = X (ix3 ⟨q.val / 8192 % 4, Nat.mod_lt _ (by decide)⟩ ⟨q.val % 8192, Nat.mod_lt _ (by decide)⟩ k) := by
  refine congrArg X (Shape.reshapeEquiv_eq_of_rowMajor h ?_)
  rw [Shape.rowMajor_val_three, Shape.rowMajor_val_two]
  show (q.val / 8192 % 4 * 8192 + q.val % 8192) * 768 + k.val = q.val * 768 + k.val
  omega

/-- A table of two columns as a list. -/
theorem list_of_pairs (X : (⟨2, ![32768, 2]⟩ : Shape).Idx → α) (h : (⟨2, ![32768, 2]⟩ : Shape).ShapeCasts ⟨1, ![65536]⟩)
    (i : Fin 65536) : shapeCast ⟨1, ![65536]⟩ X h (ix1 i)
      = X (ix2 ⟨i.val / 2, by omega⟩ ⟨i.val % 2, Nat.mod_lt _ (by decide)⟩) := by
  refine congrArg X (Shape.reshapeEquiv_eq_of_rowMajor h ?_)
  rw [Shape.rowMajor_val_two, Shape.rowMajor_val_one]
  show i.val / 2 * 2 + i.val % 2 = i.val
  omega

/-- A list as a table of two columns. -/
theorem pairs_of_list (X : (⟨1, ![65536]⟩ : Shape).Idx → α) (h : (⟨1, ![65536]⟩ : Shape).ShapeCasts ⟨2, ![32768, 2]⟩)
    (t : Fin 32768) (s : Fin 2) : shapeCast ⟨2, ![32768, 2]⟩ X h (ix2 t s) = X (ix1 ⟨2 * t.val + s.val, by omega⟩) := by
  refine congrArg X (Shape.reshapeEquiv_eq_of_rowMajor h ?_)
  rw [Shape.rowMajor_val_two, Shape.rowMajor_val_one]
  show 2 * t.val + s.val = t.val * 2 + s.val
  omega

end Cert.Flat
-- ==== Proof.Inputs.lean ====
/- The scores of the kernel's chunks, from the arrays it is launched on. -/
module

public import proofs.«01_k».proof.Proof.KernelResults
public import proofs.«01_k».proof.Proof.Flat

@[expose] public section

noncomputable section

namespace Cert.KernelIdeal.Chunk

open Cert.KernelIdeal Cert.KernelIdeal.Gen Idealize.ShloMosaic Idealize.SL.Sem

variable (m : (ℓ : Loc nD τ sig) → Buf (Elt Ideal) ℓ) (c : Dev nD)

theorem index0_0 (t : Fin cfg0.N) : win0_0.index t = ![t.val, 0] := by
  revert t; decide +kernel
theorem index0_1 (t : Fin cfg0.N) : win0_1.index t = ![0, 0] := rfl
theorem index0_2 (t : Fin cfg0.N) : win0_2.index t = ![0, 0] := rfl

theorem entry_x : V m c main_v0 = shapeCast S32768x768 (m (c, Proc.devRef .tc main_arg0)) shapeCasts_S4x8192x768_S32768x768 := by
  show StableHlo.after hostOps0 (fun b => m (c, b)) (Proc.devRef .tc main_v0) = _
  unfold hostOps0
  after_results
  rfl

theorem entry_b : V m c main_v1 = shapeCast S64x1 (m (c, Proc.devRef .tc main_arg2)) shapeCasts_S64_S64x1 := by
  show StableHlo.after hostOps0 (fun b => m (c, b)) (Proc.devRef .tc main_v1) = _
  unfold hostOps0
  after_results
  rfl

theorem entry_w : V m c main_arg1 = m (c, Proc.devRef .tc main_arg1) := by
  show StableHlo.after hostOps0 (fun b => m (c, b)) (Proc.devRef .tc main_arg1) = _
  unfold hostOps0
  after_results

theorem block_x (t : Fin cfg0.N) (r : Fin 4096) (k : Fin 768) (q : Fin 32768) (hq : q.val = 4096 * t.val + r.val) :
    iblk m c 0 t (ix2 r k) = V m c main_v0 (ix2 q k) := by
  unfold iblk
  blk_simp
  refine congrArg (V m c main_v0) (funext fun a => Fin.ext ?_)
  fin_cases a <;> blk_simp [index0_0]
  all_goals simp [hq, ix2, mul_comm]

theorem block_w (t : Fin cfg0.N) (e : Fin 64) (k : Fin 768) : iblk m c 1 t (ix2 e k) = V m c main_arg1 (ix2 e k) := by
  unfold iblk
  blk_simp
  refine congrArg (V m c main_arg1) (funext fun a => Fin.ext ?_)
  fin_cases a <;> blk_simp [index0_1]

theorem block_b (t : Fin cfg0.N) (e : Fin 64) : iblk m c 2 t (ix2 e 0) = V m c main_v1 (ix2 e 0) := by
  unfold iblk
  blk_simp
  refine congrArg (V m c main_v1) (funext fun a => Fin.ext ?_)
  fin_cases a <;> blk_simp [index0_2]

theorem row_x (t : Fin cfg0.N) (p : Fin 32) (j : Fin 128) (k : Fin 768) :
    View.ld (iblk m c 0 t) (Rect.unit (s := S4096x768) ![128 * p.val, 0] S128x768.size (rows_inb p)) (ix2 j k)
      = iblk m c 0 t (ix2 ⟨128 * p.val + j.val, by omega⟩ k) := by
  refine congrArg (iblk m c 0 t) (funext fun a => Fin.ext ?_)
  fin_cases a
  · show 128 * p.val + 1 * j.val = 128 * p.val + j.val; omega
  · show 0 + 1 * k.val = k.val; omega

theorem flat_x (q : Fin 32768) (k : Fin 768) : V m c main_v0 (ix2 q k)
    = m (c, Proc.devRef .tc main_arg0) (ix3 ⟨q.val / 8192 % 4, Nat.mod_lt _ (by decide)⟩ ⟨q.val % 8192, Nat.mod_lt _ (by decide)⟩ k) := by
  rw [entry_x]
  exact Flat.tokens _ _ q k

theorem column_b (e : Fin 64) : V m c main_v1 (ix2 e 0) = m (c, Proc.devRef .tc main_arg2) (ix1 e) := by
  rw [entry_b]
  pointwise

theorem row_chunk (t : ℕ) : row (chunk m c) t
    = Route.score (m (c, Proc.devRef .tc main_arg0)) (m (c, Proc.devRef .tc main_arg1)) (m (c, Proc.devRef .tc main_arg2)) t := by
  funext e
  show logits (F := Ideal) _ _ _ (ix2 e _) = _
  rw [logits_apply, block_b, column_b]
  unfold Route.score
  congr 1
  refine Finset.sum_congr rfl fun k _ => ?_
  rw [block_w, entry_w, row_x, block_x m c _ _ _ ⟨t % 32768, Nat.mod_lt _ (by decide)⟩ (by show t % 32768 = 4096 * (t / 128 / 32 % 8) + (128 * (t / 128 % 32) + t % 128); omega), flat_x]
  congr 3
  · exact Fin.ext (by show t % 32768 / 8192 % 4 = t / 8192 % 4; omega)
  · exact Fin.ext (by show t % 32768 % 8192 = t % 8192; omega)

end Cert.KernelIdeal.Chunk

end
-- ==== Proof.Sorts.lean ====
/- Selections by sorting: the two greatest of each row of a table, and the order of a list of small numbers. -/
module

public import proofs.«01_k».proof.Proof.Route
public import proofs.«01_k».proof.Proof.Literals
public import Idealize.ShloMosaic.Lib.Pointwise
public import Idealize.ShloMosaic.Lib.SortFacts

@[expose] public section

noncomputable section

namespace Cert.Route

open Idealize.ShloMosaic

/-! ## The two greatest -/

/-- A stable descending sort of a row that is ordered as `v` puts `v`'s choices first. -/
theorem sorted_pick (p v : Fin 64 → EReal) (hlt : ∀ a b, p a < p b ↔ v a < v b) (hv : ∀ e, ⊥ < v e) (s : Fin 2) :
    sortedFrom (fun k k' => decide (p k' < p k)) (s.castLE (by decide : 2 ≤ 64)) = pick v s := by
  classical
  have hB := StrictTotalBefore.of_key_then_position (fun a b : EReal => decide (b < a)) v (fun a => by simp)
    (fun a b c h h' => by simp only [decide_eq_true_eq] at h h' ⊢; exact h'.trans h)
    fun a b => by
      simp only [decide_eq_true_eq]
      rcases lt_trichotomy a b with h | h | h
      · exact Or.inr (Or.inr h)
      · exact Or.inr (Or.inl h)
      · exact Or.inl h
  rw [sortedFrom_of_positions _ (fun k k' : Fin 64 => decide (v k' < v k) || (decide (v k = v k') && decide (k < k'))) fun a b hab => by
    have hba : decide (b < a) = false := decide_eq_false (not_lt.mpr hab.le)
    rw [hba, Bool.and_false, Bool.or_false, decide_eq_decide, hlt]]
  have hne := second_ne v hv
  have h1 := first_spec v
  have h2 := second_spec v hv
  refine hB.sortedFrom_eq_of_prefix (by decide) (pick v) ?_ ?_ ?_ s
  · intro a b hab
    match a, b with
    | 0, 0 => rfl
    | 1, 1 => rfl
    | 0, 1 => exact absurd hab.symm hne
    | 1, 0 => exact absurd hab hne
  · intro a b hab
    match a, b with
    | 0, 0 => exact absurd hab (by decide)
    | 1, 1 => exact absurd hab (by decide)
    | 1, 0 => exact absurd hab (by decide)
    | 0, 1 =>
      show (decide (v (first v) < v (second v)) || (decide (v (second v) = v (first v)) && decide (second v < first v))) = false
      rw [decide_eq_false (not_lt.mpr (h1.1 _)), Bool.false_or, Bool.and_eq_false_iff]
      by_cases h : second v < first v
      · exact Or.inl (decide_eq_false (h1.2 _ h).ne)
      · exact Or.inr (decide_eq_false h)
  · intro s q hq
    have hq1 : q ≠ first v := fun h => hq 0 h.symm
    have hq2 : q ≠ second v := fun h => hq 1 h.symm
    match s with
    | 0 =>
      show (decide (v (first v) < v q) || (decide (v q = v (first v)) && decide (q < first v))) = false
      rw [decide_eq_false (not_lt.mpr (h1.1 _)), Bool.false_or, Bool.and_eq_false_iff]
      by_cases h : q < first v
      · exact Or.inl (decide_eq_false (h1.2 _ h).ne)
      · exact Or.inr (decide_eq_false h)
    | 1 =>
      show (decide (v (second v) < v q) || (decide (v q = v (second v)) && decide (q < second v))) = false
      rw [decide_eq_false (not_lt.mpr (h2.1 _ hq1)), Bool.false_or, Bool.and_eq_false_iff]
      by_cases h : q < second v
      · exact Or.inl (decide_eq_false (h2.2 _ hq1 h).ne)
      · exact Or.inr (decide_eq_false h)

theorem along_row {n k : ℕ} (t : Fin n) (e e' : Fin k) : (ix2 t e : (⟨2, ![n, k]⟩ : Shape).Idx).along (1 : Fin 2) e' = ix2 t e' := by
  funext a
  match a with
  | 0 => rfl
  | 1 => rfl

section TopK

variable {n k : ℕ} (hk : k ≤ 64) (x : (⟨2, ![n, 64]⟩ : Shape).Idx → EReal)
  (h : (⟨2, ![n, 64]⟩ : Shape).Slices (fun _ => 0) ⟨2, ![n, k]⟩) (t : Fin n) (s : Fin k)

theorem sliced_row {α : Type} (z : (⟨2, ![n, 64]⟩ : Shape).Idx → α) :
    extractStridedSlice ⟨2, ![n, k]⟩ (fun _ => 0) z h (ix2 t s) = z (ix2 t (s.castLE hk)) := by
  refine congrArg z (funext fun a => Fin.ext ?_)
  match a with
  | 0 => show 0 + t.val = t.val; omega
  | 1 => show 0 + s.val = s.val; omega

theorem cmpTotal_gt (a b : EReal) : (FloatOps.cmpfTotal (F := Ideal) (φ := .f32) .gt a b == 1#1) = decide (b < a) := by
  show (BitVec.ofBool (decide (b < a)) == 1#1) = _
  by_cases h : b < a <;> simp [h]

theorem sort_row (y : IVec ⟨2, ![n, 64]⟩ 32) (e : Fin 64) :
    (Host.sort2 ⟨2, ![n, 64]⟩ 1 (fun l r : EReal × BitVec 32 => FloatOps.cmpfTotal (F := Ideal) (φ := .f32) .gt l.1 r.1) x y).1 (ix2 t e)
        = x (ix2 t (sortedFrom (fun k k' => decide (x (ix2 t k') < x (ix2 t k))) e))
    ∧ (Host.sort2 ⟨2, ![n, 64]⟩ 1 (fun l r : EReal × BitVec 32 => FloatOps.cmpfTotal (F := Ideal) (φ := .f32) .gt l.1 r.1) x y).2 (ix2 t e)
        = y (ix2 t (sortedFrom (fun k k' => decide (x (ix2 t k') < x (ix2 t k))) e)) := by
  have hR : (fun a b : Fin 64 => FloatOps.cmpfTotal (F := Ideal) (φ := .f32) .gt (x ((ix2 t e : (⟨2, ![n, 64]⟩ : Shape).Idx).along (1 : Fin 2) a))
      (x ((ix2 t e : (⟨2, ![n, 64]⟩ : Shape).Idx).along (1 : Fin 2) b)) == 1#1) = fun k k' => decide (x (ix2 t k') < x (ix2 t k)) := by
    funext a b
    rw [cmpTotal_gt, along_row, along_row]
  have hI : (ix2 t e : (⟨2, ![n, 64]⟩ : Shape).Idx).along (1 : Fin 2) (sortedFrom (fun a b : Fin 64 => FloatOps.cmpfTotal (F := Ideal) (φ := .f32) .gt
      (x ((ix2 t e : (⟨2, ![n, 64]⟩ : Shape).Idx).along (1 : Fin 2) a)) (x ((ix2 t e : (⟨2, ![n, 64]⟩ : Shape).Idx).along (1 : Fin 2) b)) == 1#1) e)
      = ix2 t (sortedFrom (fun k k' => decide (x (ix2 t k') < x (ix2 t k))) e) := by
    exact (along_row t e _).trans (congrArg (ix2 t) (congrFun (congrArg sortedFrom hR) e))
  exact ⟨congrArg x hI, congrArg y hI⟩

theorem topK_eq : Host.topK ⟨2, ![n, k]⟩ 1 (FloatOps.cmpfTotal (F := Ideal) (φ := .f32) .gt) x h
    = (extractStridedSlice ⟨2, ![n, k]⟩ (fun _ => 0) (Host.sort2 ⟨2, ![n, 64]⟩ 1
          (fun l r : EReal × BitVec 32 => FloatOps.cmpfTotal (F := Ideal) (φ := .f32) .gt l.1 r.1) x (fun i => BitVec.ofNat 32 (i 1).val)).1 h,
      extractStridedSlice ⟨2, ![n, k]⟩ (fun _ => 0) (Host.sort2 ⟨2, ![n, 64]⟩ 1
          (fun l r : EReal × BitVec 32 => FloatOps.cmpfTotal (F := Ideal) (φ := .f32) .gt l.1 r.1) x (fun i => BitVec.ofNat 32 (i 1).val)).2 h) := by
  have e : (fun i : (⟨2, ![n, 64]⟩ : Shape).Idx => if hd : 1 < (⟨2, ![n, 64]⟩ : Shape).rank then iotaInDim ⟨2, ![n, 64]⟩ 32 ⟨1, hd⟩ i else 0#32)
      = fun i => BitVec.ofNat 32 (i 1).val := by
    funext i
    exact (dif_pos (show 1 < 2 by decide)).trans rfl
  simp only [Host.topK, e]

theorem topK_values : (Host.topK ⟨2, ![n, k]⟩ 1 (FloatOps.cmpfTotal (F := Ideal) (φ := .f32) .gt) x h).1 (ix2 t s)
    = x (ix2 t (sortedFrom (fun k k' => decide (x (ix2 t k') < x (ix2 t k))) (s.castLE hk))) := by
  rw [topK_eq]
  exact (sliced_row hk h t s _).trans (sort_row x t (fun i => BitVec.ofNat 32 (i 1).val) (s.castLE hk)).1

theorem topK_indices : (Host.topK ⟨2, ![n, k]⟩ 1 (FloatOps.cmpfTotal (F := Ideal) (φ := .f32) .gt) x h).2 (ix2 t s)
    = BitVec.ofNat 32 (sortedFrom (fun k k' => decide (x (ix2 t k') < x (ix2 t k))) (s.castLE hk)).val := by
  rw [topK_eq]
  exact (sliced_row hk h t s _).trans (sort_row x t (fun i => BitVec.ofNat 32 (i 1).val) (s.castLE hk)).2

end TopK

/-! ## The order of a list -/

theorem argsort_apply {n : ℕ} (cmp : BitVec 32 × BitVec 32 → BitVec 32 × BitVec 32 → BitVec 1)
    (hcmp : ∀ l r, cmp l r = IntOp.cmpi .slt l.1 r.1) (x y : (⟨1, ![n]⟩ : Shape).Idx → BitVec 32) (K : ℕ → ℕ)
    (hK : ∀ i : Fin n, x (ix1 i) = BitVec.ofNat 32 (K i.val)) (hs : ∀ i : Fin n, K i.val < 2 ^ 31) (r : Fin n) :
    (Host.sort2 ⟨1, ![n]⟩ 0 cmp x y).2 (ix1 r) = y (ix1 (sortedFrom (fun a b : Fin n => decide (K a < K b)) r)) := by
  have ha : ∀ k : Fin n, (ix1 r : (⟨1, ![n]⟩ : Shape).Idx).along (0 : Fin 1) k = ix1 k := fun k => by
    funext a
    match a with
    | 0 => rfl
  show y _ = _
  refine congrArg y ((ha _).trans (congrArg ix1 ?_))
  refine congrArg (fun R => sortedFrom R r) (funext fun (a : Fin n) => funext fun (b : Fin n) => ?_)
  rw [hcmp]
  show (IntOp.cmpi .slt (x ((ix1 r : (⟨1, ![n]⟩ : Shape).Idx).along (0 : Fin 1) a)) (x ((ix1 r : (⟨1, ![n]⟩ : Shape).Idx).along (0 : Fin 1) b)) == 1#1) = _
  rw [ha, ha, hK, hK]
  have e := Literals.cmpi_slt_iff (BitVec.ofNat 32 (K a.val)) (BitVec.ofNat 32 (K b.val))
  have ea : ∀ i : Fin n, (BitVec.ofNat 32 (K i.val)).toInt = K i.val := fun i => by
    have := hs i
    rw [BitVec.toInt_eq_toNat_of_lt (by rw [BitVec.toNat_ofNat]; omega), BitVec.toNat_ofNat]; omega
  rw [ea, ea, Nat.cast_lt] at e
  by_cases h : K a.val < K b.val
  · rw [decide_eq_true h, e.mpr h]; rfl
  · rw [decide_eq_false h, beq_eq_false_iff_ne]; exact fun h' => h (e.mp h')

/-- The stable sort by a key, as the sort by the key and then the position. -/
theorem sorted_byKey {n : ℕ} (K : Fin n → ℕ) : sortedFrom (fun a b => decide (K a < K b)) = sortedFrom (byKey K) := by
  refine sortedFrom_of_positions _ _ fun a b hab => ?_
  unfold byKey
  rw [decide_eq_false (not_lt.mpr hab.le : ¬b < a), Bool.and_false, Bool.or_false]

end Cert.Route

end
-- ==== Proof.Tables.lean ====
/- Counting and looking up by index words: a histogram, its running sum, a table read at a list of indices. -/
module

public import proofs.«01_k».proof.Proof.Sorts
public import proofs.«01_k».proof.Proof.Literals
public import Idealize.ShloMosaic.Lib.Routing.OpsSet

@[expose] public section

noncomputable section

namespace Cert.Route

open Idealize.ShloMosaic

section Histogram

variable {N M : ℕ} (wf : ScatterDims.WF ⟨1, ![N]⟩ ⟨2, ![M, 1]⟩ ⟨1, ![M]⟩ [] [0] [0] 1) (idx : IVec ⟨2, ![M, 1]⟩ 32)

/-- One scalar update per index word, added at the entry the word names. -/
def adds : ScatterDims ⟨1, ![N]⟩ ⟨2, ![M, 1]⟩ ⟨1, ![M]⟩ := ⟨[], [0], [0], 1, wf⟩

theorem adds_start (i : Fin M) : (adds wf).start (ix1 i) idx 0 = (idx (ix2 i 0)).toInt := by
  refine congrArg (fun z => (idx z).toInt) (funext fun b => Fin.ext ?_)
  match b with
  | 0 => rfl
  | 1 => rfl

theorem adds_lands (i : Fin M) (k : ℕ) (hk : idx (ix2 i 0) = BitVec.ofNat 32 k) (hs : k < 2 ^ 31) (e : Fin N) :
    (adds wf).resultIdx? (ix1 i) idx = some (ix1 e) ↔ k = e.val := by
  have h0 : (adds wf).start (ix1 i) idx 0 + ((adds wf).window (ix1 i) 0 : ℕ) = (k : ℤ) := by
    have hw : (adds wf).window (ix1 i) 0 = 0 := rfl
    rw [adds_start, hk, hw]
    have := StableHlo.Predicate.toInt_ofNat_small k hs
    omega
  have he := e.isLt
  unfold ScatterDims.resultIdx?
  constructor
  · intro h
    split at h
    · have := congrArg (fun z : (⟨1, ![N]⟩ : Shape).Idx => (z 0).val) (Option.some.inj h)
      change ((adds wf).start (ix1 i) idx 0 + ((adds wf).window (ix1 i) 0 : ℕ)).toNat = e.val at this
      rw [h0] at this
      omega
    · exact absurd h (by simp)
  · intro h
    have hin : ∀ a, 0 ≤ (adds wf).start (ix1 i) idx a + ((adds wf).window (ix1 i) a : ℕ)
        ∧ (adds wf).start (ix1 i) idx a + ((adds wf).window (ix1 i) a : ℕ) < ((⟨1, ![N]⟩ : Shape).size a : ℕ) := by
      intro a
      match a with
      | 0 =>
        show _ ∧ _ < ((N : ℕ) : ℤ)
        erw [h0]
        omega
    rw [dif_pos hin]
    refine congrArg some (funext fun a => Fin.ext ?_)
    match a with
    | 0 =>
      show ((adds wf).start (ix1 i) idx 0 + ((adds wf).window (ix1 i) 0 : ℕ)).toNat = e.val
      rw [h0]
      omega

/-- Ones added into zeros count the words that name an entry. -/
theorem histogram (x : IVec ⟨1, ![N]⟩ 32) (upd : IVec ⟨1, ![M]⟩ 32) (hx : ∀ e : Fin N, x (ix1 e) = 0#32) (hu : ∀ i : Fin M, upd (ix1 i) = 1#32)
    (K : ℕ → ℕ) (hK : ∀ i : Fin M, idx (ix2 i 0) = BitVec.ofNat 32 (K i.val)) (hs : ∀ i : Fin M, K i.val < 2 ^ 31) (e : Fin N) :
    Host.scatter (adds wf) IntOp.addi x idx upd (ix1 e) = BitVec.ofNat 32 (Nat.count (fun i => K i = e.val) M) := by
  have hn : (⟨1, ![M]⟩ : Shape).numel = M := Routing.numel1 M
  unfold Host.scatter
  rw [Routing.foldl_count _ (ix1 e) (fun n => decide (K n.val = e.val)) ?_ _ x 0 (hx e), Nat.zero_add,
    Routing.countP_finRange _ fun i => K i = e.val, hn]
  intro r n
  have hl := adds_lands wf idx (n.cast hn) (K n.val) (hK _) (hs (n.cast hn)) e
  rw [Routing.symm1]
  have hu' : upd (ValueIdx.ix1 (n.cast hn)) = 1#32 := hu _
  cases hr : (adds wf).resultIdx? (ix1 (n.cast hn)) idx with
  | none =>
    have hr' : (adds wf).resultIdx? (ValueIdx.ix1 (n.cast hn)) idx = none := hr
    have hne : ¬K n.val = e.val := fun h => by rw [hr] at hl; exact absurd (hl.mpr h) (by simp)
    rw [hr', decide_eq_false hne]
    rfl
  | some z =>
    have hr' : (adds wf).resultIdx? (ValueIdx.ix1 (n.cast hn)) idx = some z := hr
    rw [hr, Option.some_inj] at hl
    rw [hr', hu']
    by_cases h : K n.val = e.val
    · rw [hl.mpr h, decide_eq_true h]
      show (if ix1 e = ix1 e then _ else _) = _
      rw [if_pos rfl]
      rfl
    · have hz : ¬ix1 e = z := fun h' => h (hl.mp h'.symm)
      rw [decide_eq_false h]
      show (if ix1 e = z then _ else _) = _
      rw [if_neg hz]
      rfl

end Histogram

/-- The running sum of a histogram counts the smaller words. -/
theorem sum_counts (K : ℕ → ℕ) (M : ℕ) : ∀ e : ℕ,
    ((List.range e).map fun k => Nat.count (fun i => K i = k) M).sum = Nat.count (fun i => K i < e) M
  | 0 => by simp
  | e + 1 => by
    rw [List.range_succ, List.map_append, List.sum_append, sum_counts K M e, List.map_singleton, List.sum_singleton]
    induction M with
    | zero => rfl
    | succ M ih =>
      rw [Nat.count_succ, Nat.count_succ, Nat.count_succ, ← ih]
      by_cases h1 : K M < e
      · rw [if_pos h1, if_neg (by omega), if_pos (by omega)]; omega
      · by_cases h2 : K M = e
        · rw [if_neg h1, if_pos h2, if_pos (by omega)]; omega
        · rw [if_neg h1, if_neg h2, if_neg (by omega)]; omega

/-! ## Index words that need no wrapping -/

theorem wrap_ofNat (n : BitVec 32) (k : ℕ) (hk : k < 2 ^ 31) :
    Scalar.select (IntOp.cmpi .slt (BitVec.ofNat 32 k) 0#32) (IntOp.addi (BitVec.ofNat 32 k) n) (BitVec.ofNat 32 k) = BitVec.ofNat 32 k := by
  rw [Literals.select_iff (Literals.cmpi_slt_iff _ _), if_neg]
  rw [StableHlo.Predicate.toInt_ofNat_small k hk]
  show ¬(k : ℤ) < 0
  omega

theorem max_ofNat (k : ℕ) (hk : k < 2 ^ 31) : IntOp.maxsi 0#32 (BitVec.ofNat 32 k) = BitVec.ofNat 32 k := by
  have h := StableHlo.Predicate.toInt_ofNat_small k hk
  have hn : (BitVec.ofNat 32 k).slt 0#32 = false := by
    rw [BitVec.slt, h]
    simp
  unfold IntOp.maxsi
  simp [hn]

theorem sub_ofNat (r b p : ℕ) (h : r = b + p) : IntOp.subi (BitVec.ofNat 32 r) (BitVec.ofNat 32 b) = BitVec.ofNat 32 p := by
  subst h
  show BitVec.ofNat 32 (b + p) - BitVec.ofNat 32 b = _
  rw [BitVec.ofNat_add, BitVec.add_comm, BitVec.add_sub_cancel]

/-- Sorting a list does not change how often a word stands in it. -/
theorem count_sorted {n : ℕ} (B : Fin n → Fin n → Bool) (K K' : ℕ → ℕ) (h : ∀ r : Fin n, K' r.val = K (sortedFrom B r).val) (e : ℕ) :
    Nat.count (fun i => K' i = e) n = Nat.count (fun i => K i = e) n := by
  rw [← card_filter_fin, ← card_filter_fin]
  refine Finset.card_bij (fun r _ => sortedFrom B r) (fun r hr => ?_) (fun a _ b _ hab => sortedFrom_injective B hab) fun i hi => ?_
  · rw [Finset.mem_filter] at hr ⊢
    exact ⟨Finset.mem_univ _, by rw [← h]; exact hr.2⟩
  · obtain ⟨r, rfl⟩ := sortedFrom_surjective B i
    rw [Finset.mem_filter] at hi
    exact ⟨r, Finset.mem_filter.mpr ⟨Finset.mem_univ _, by rw [h]; exact hi.2⟩, rfl⟩

end Cert.Route

end
-- ==== Proof.Queue.lean ====
/- The reference's places in the queues: the requests sorted by expert, each one's place behind the requests of its expert that came
   before it, and the mask of the places below the capacity. -/
module

public import proofs.«01_k».proof.Proof.Tables
public import proofs.«01_k».proof.Proof.Spec
public import proofs.«01_k».proof.Proof.Gen.ReferenceIdeal.Read

@[expose] public section

noncomputable section

namespace Cert.ReferenceIdeal.Queue

open Cert.ReferenceIdeal Cert.ReferenceIdeal.Gen Cert.ReferenceIdeal.Read Cert.Route Idealize.ShloMosaic

variable (x0 : (⟨S4x8192x768, .f32⟩ : BufTy).Contents (Elt Ideal)) (x1 : (⟨S64x768, .f32⟩ : BufTy).Contents (Elt Ideal))
  (x2 : (⟨S64, .f32⟩ : BufTy).Contents (Elt Ideal)) (v : ℕ → Fin 64 → EReal)

/-- The expert of request `i`, as a number. -/
def key (i : ℕ) : ℕ := (flat v i).val

theorem key_lt (i : ℕ) : key v i < 64 := (flat v i).isLt

theorem key_fin (i : ℕ) : ∃ e : Fin 64, e.val = key v i := ⟨flat v i, rfl⟩

theorem key_small (i : ℕ) : key v i < 2 ^ 31 := (key_lt v i).trans (by norm_num)

/-- The request in place `r` of the sorted list. -/
def order : Fin 65536 → Fin 65536 := sortedFrom (byKey fun a : Fin 65536 => key v a)

/-- The same on all numbers. -/
def orderNat (r : ℕ) : ℕ := if h : r < 65536 then (order v ⟨r, h⟩).val else 0

theorem orderNat_fin (r : Fin 65536) : orderNat v r.val = (order v r).val := by
  unfold orderNat
  rw [dif_pos r.isLt]

/-- The requests of smaller experts. -/
def below (e : ℕ) : ℕ := Nat.count (fun j => key v j < e) 65536

/-- The requests of the same expert before request `i`. -/
def place (i : ℕ) : ℕ := Nat.count (fun j => key v j = key v i) i

theorem order_rank (r : Fin 65536) : r.val = below v (key v (order v r)) + place v (order v r) := sorted_rank (key v) r

/-- Where request `i` stands in the sorted list. -/
def back : Fin 65536 → Fin 65536 := sortedFrom fun a b => decide (order v a < order v b)

theorem order_back (i : Fin 65536) : order v (back v i) = i := sorted_inverse (order v) (sortedFrom_injective _) i

variable (hi : ∀ (t : Fin 32768) (s : Fin 2), val_main_indices (F := Ideal) x0 x1 x2 (ix2 t s) = BitVec.ofNat 32 (pick (v t) s).val)

include hi

theorem v22_at (i : Fin 65536) : val_main_v22 (F := Ideal) x0 x1 x2 (ix1 i) = BitVec.ofNat 32 (key v i) := by
  have hl := i.isLt
  have e : idx_main_v22 (ix1 i) = ix2 (⟨i.val / 2, by omega⟩ : Fin 32768) (⟨i.val % 2, by omega⟩ : Fin 2) := by
    funext a
    match a with
    | 0 => rfl
    | 1 => rfl
  rw [val_main_v22_apply, e, hi]
  unfold key flat
  refine congrArg (fun s => BitVec.ofNat 32 (pick (v (i.val / 2)) s).val) (Fin.ext ?_)
  show i.val % 2 = _
  split
  · next h => rw [h]; rfl
  · next h => show i.val % 2 = 1; omega

theorem v23_at (r : Fin 65536) : val_main_v23 (F := Ideal) x0 x1 x2 (ix1 r) = BitVec.ofNat 32 (order v r).val := by
  unfold val_main_v23
  refine (argsort_apply comparator_i32_i32_d0 (fun _ _ => rfl) _ _ (key v) (v22_at x0 x1 x2 v hi) (fun i => key_small v i) r).trans ?_
  rw [sorted_byKey fun a : Fin 65536 => key v a, val_main_call1_v0_apply]
  rfl

theorem v29_at (r : Fin 65536) : val_main_v29 (F := Ideal) x0 x1 x2 (ix2 r 0) = BitVec.ofNat 32 (order v r).val := by
  have e : idx_main_v29 (ix2 r 0) = ix1 r := by
    funext a
    match a with
    | 0 => rfl
  have hl := (order v r).isLt
  rw [val_main_v29_apply, e, val_main_v28_apply, val_main_v25_apply, val_main_v27_apply, val_main_v24_apply, val_main_c_apply,
    v23_at x0 x1 x2 v hi r, wrap_ofNat _ _ (by omega)]

theorem v30_at (r : Fin 65536) : val_main_v30 (F := Ideal) x0 x1 x2 (ix1 r) = BitVec.ofNat 32 (key v (order v r)) := by
  unfold val_main_v30
  exact (Routing.gather_take1 gather_S65536_S65536x1_S65536_n_0_n_n_0_1_1 rfl rfl rfl rfl _ _ r (order v r) (v29_at x0 x1 x2 v hi r)
    (by norm_num)).trans (v22_at x0 x1 x2 v hi (order v r))

theorem v38_at (r : Fin 65536) : val_main_v38 (F := Ideal) x0 x1 x2 (ix2 r 0) = BitVec.ofNat 32 (key v (order v r)) := by
  have e : idx_main_v38 (ix2 r 0) = ix1 r := by
    funext a
    match a with
    | 0 => rfl
  rw [val_main_v38_apply, e, val_main_v37_apply, val_main_v34_apply, val_main_v36_apply, val_main_v33_apply, val_main_c_7_apply,
    val_main_v32_apply, val_main_call2_v1_apply, val_main_call2_v0_apply, val_main_c_6_apply, v30_at x0 x1 x2 v hi r,
    max_ofNat _ (key_small v _), wrap_ofNat _ _ (key_small v _)]

theorem v40_at (e : Fin 64) : val_main_v40 (F := Ideal) x0 x1 x2 (ix1 e) = BitVec.ofNat 32 (Nat.count (fun i => key v i = e.val) 65536) := by
  have h : ∀ r : Fin 65536, key v (orderNat v r.val) = key v (order v r) := fun r => congrArg (key v) (orderNat_fin v r)
  unfold val_main_v40
  refine (histogram scatter_S64_S65536x1_S65536_n_0_0_1_wf _ _ _ (fun e => ?_) (fun i => ?_) (fun r => key v (orderNat v r))
    (fun r => ?_) (fun r => key_small v _) e).trans (congrArg (BitVec.ofNat 32) ?_)
  · rw [val_main_v31_apply, val_main_c_5_apply]
  · rw [val_main_v39_apply, val_main_c_9_apply]
  · rw [v38_at x0 x1 x2 v hi r, h]
  · exact count_sorted (byKey fun a : Fin 65536 => key v a) (key v) (fun r => key v (orderNat v r)) h e.val

theorem v41_at (e : Fin 64) : val_main_v41 (F := Ideal) x0 x1 x2 (ix1 e) = BitVec.ofNat 32 (below v (e.val + 1)) := by
  unfold val_main_v41
  refine (Routing.cumsum1 rfl _ (fun e => Nat.count (fun i => key v i = e) 65536) (v40_at x0 x1 x2 v hi) _ ?_ _ _ e).trans
    (congrArg (BitVec.ofNat 32) (sum_counts (key v) 65536 (e.val + 1)))
  rw [val_main_call3_call0_v0_apply, val_main_call3_call0_c_apply]

theorem v45_at (e : Fin 64) : val_main_v45 (F := Ideal) x0 x1 x2 (ix1 e) = BitVec.ofNat 32 (below v e.val) := by
  have hl := e.isLt
  unfold val_main_v45
  by_cases h : e.val = 0
  · refine (concatenate_pair_apply_left 0 _ _ concatenates_S1_S63_S64_d0 (ix1 e) rfl (ix1 (0 : Fin 1)) fun b => ?_).trans ?_
    · match b with
      | 0 => exact h.symm
    · rw [val_main_v43_apply, val_main_c_10_apply, h]
      refine congrArg (BitVec.ofNat 32) (?_ : 0 = below v 0)
      exact (Nat.count_of_forall_not (fun j _ => Nat.not_lt_zero _)).symm
  · refine (concatenate_pair_apply_right 0 _ _ concatenates_S1_S63_S64_d0 (ix1 e) rfl rfl (ix1 (⟨e.val - 1, by omega⟩ : Fin 63))
      (fun b hb => ?_) ?_).trans ?_
    · match b with
      | 0 => exact absurd rfl hb
    · show e.val - 1 + 1 = e.val
      omega
    · have e' : idx_main_v44 (ix1 (⟨e.val - 1, by omega⟩ : Fin 63)) = ix1 (⟨e.val - 1, by omega⟩ : Fin 64) := by
        funext a
        match a with
        | 0 => rfl
      rw [val_main_v44_apply, e', v41_at x0 x1 x2 v hi]
      show BitVec.ofNat 32 (below v (e.val - 1 + 1)) = _
      rw [show e.val - 1 + 1 = e.val by omega]

theorem v51_at (r : Fin 65536) : val_main_v51 (F := Ideal) x0 x1 x2 (ix2 r 0) = BitVec.ofNat 32 (key v (order v r)) := by
  have e : idx_main_v51 (ix2 r 0) = ix1 r := by
    funext a
    match a with
    | 0 => rfl
  rw [val_main_v51_apply, e, val_main_v50_apply, val_main_v47_apply, val_main_v49_apply, val_main_v46_apply, val_main_c_11_apply,
    v30_at x0 x1 x2 v hi r, wrap_ofNat _ _ (key_small v _)]

theorem v52_at (r : Fin 65536) : val_main_v52 (F := Ideal) x0 x1 x2 (ix1 r) = BitVec.ofNat 32 (below v (key v (order v r))) := by
  obtain ⟨e, he⟩ : ∃ e : Fin 64, e.val = key v (order v r) := key_fin v _
  have h := v51_at x0 x1 x2 v hi r
  rw [← he] at h ⊢
  unfold val_main_v52
  exact (Routing.gather_take1 gather_S64_S65536x1_S65536_n_0_n_n_0_1_1 rfl rfl rfl rfl _ _ r e h (by norm_num)).trans
    (v45_at x0 x1 x2 v hi e)

theorem v53_at (r : Fin 65536) : val_main_v53 (F := Ideal) x0 x1 x2 (ix1 r) = BitVec.ofNat 32 (place v (order v r)) := by
  have h : val_main_v42 (F := Ideal) (ix1 r) = BitVec.ofNat 32 r.val := rfl
  refine (val_main_v53_apply x0 x1 x2 (ix1 r)).trans ?_
  rw [h, v52_at x0 x1 x2 v hi r]
  exact sub_ofNat r.val _ _ (order_rank v r)

theorem v54_at (i : Fin 65536) : val_main_v54 (F := Ideal) x0 x1 x2 (ix1 i) = BitVec.ofNat 32 (back v i).val := by
  unfold val_main_v54
  refine (argsort_apply comparator_i32_i32_d0 (fun _ _ => rfl) _ _ (orderNat v)
    (fun r => (v23_at x0 x1 x2 v hi r).trans (by rw [orderNat_fin])) (fun r => ?_) i).trans ?_
  · rw [orderNat_fin]
    have := (order v r).isLt
    omega
  · have e : (fun a b : Fin 65536 => decide (orderNat v a < orderNat v b)) = fun a b => decide (order v a < order v b) := by
      funext a b
      rw [orderNat_fin, orderNat_fin]
      rfl
    rw [e, val_main_call4_v0_apply]
    rfl

theorem v60_at (i : Fin 65536) : val_main_v60 (F := Ideal) x0 x1 x2 (ix2 i 0) = BitVec.ofNat 32 (back v i).val := by
  have e : idx_main_v60 (ix2 i 0) = ix1 i := by
    funext a
    match a with
    | 0 => rfl
  have hl := (back v i).isLt
  rw [val_main_v60_apply, e, val_main_v59_apply, val_main_v56_apply, val_main_v58_apply, val_main_v55_apply, val_main_c_13_apply,
    v54_at x0 x1 x2 v hi i, wrap_ofNat _ _ (by omega)]

theorem v61_at (i : Fin 65536) : val_main_v61 (F := Ideal) x0 x1 x2 (ix1 i) = BitVec.ofNat 32 (place v i.val) := by
  unfold val_main_v61
  refine (Routing.gather_take1 gather_S65536_S65536x1_S65536_n_0_n_n_0_1_1 rfl rfl rfl rfl _ _ i (back v i) (v60_at x0 x1 x2 v hi i)
    (by norm_num)).trans ((v53_at x0 x1 x2 v hi (back v i)).trans ?_)
  rw [order_back]

theorem v63_at (i : Fin 65536) : val_main_v63 (F := Ideal) x0 x1 x2 (ix1 i) = 1#1 ↔ place v i.val < 1280 := by
  have hp : place v i.val ≤ i.val := Nat.count_le _
  have hl := i.isLt
  rw [val_main_v63_apply, val_main_v62_apply, val_main_c_15_apply, v61_at x0 x1 x2 v hi i, Literals.cmpi_slt_iff,
    StableHlo.Predicate.toInt_ofNat_small _ (by omega)]
  show (place v i.val : ℤ) < 1280 ↔ _
  omega

theorem v64_at (hv : ∀ t e, ⊥ < v t e) (t : Fin 32768) (s : Fin 2) :
    val_main_v64 (F := Ideal) x0 x1 x2 (ix2 t s) = 1#1 ↔ Room v t s := by
  have ht := t.isLt
  have hs := s.isLt
  have e : idx_main_v64 (ix2 t s) = ix1 (⟨2 * t.val + s.val, by omega⟩ : Fin 65536) := by
    funext a
    match a with
    | 0 => exact Fin.ext (show t.val * 2 + s.val = 2 * t.val + s.val by omega)
  rw [val_main_v64_apply, e, v63_at x0 x1 x2 v hi]
  have h : place v (2 * t.val + s.val) = Nat.count (fun t' => Chosen (v t') (pick (v t) s)) t := by
    rw [← count_flat_slot v hv t.val s]
    unfold place key
    rw [flat_slot]
    simp only [Fin.val_inj]
  show place v (2 * t.val + s.val) < 1280 ↔ _
  rw [h]
  exact Iff.rfl

end Cert.ReferenceIdeal.Queue

end
-- ==== Proof.Loads.lean ====
/- The reference's results that need only the places in the queues: the experts kept, the loads and their loss, the overflow. -/
module

public import proofs.«01_k».proof.Proof.Queue

@[expose] public section

noncomputable section

namespace Cert.Route

theorem count_ext (p q : ℕ → Prop) [DecidablePred p] [DecidablePred q] (h : ∀ i, p i ↔ q i) : ∀ n, Nat.count p n = Nat.count q n
  | 0 => by simp
  | n + 1 => by
    rw [Nat.count_succ, Nat.count_succ, count_ext p q h n]
    by_cases hp : p n
    · rw [if_pos hp, if_pos ((h n).mp hp)]
    · rw [if_neg hp, if_neg fun hq => hp ((h n).mpr hq)]

theorem count_split (f : ℕ → Fin 64) (p : ℕ → Prop) [DecidablePred p] :
    ∀ n, ∑ e : Fin 64, Nat.count (fun i => f i = e ∧ p i) n = Nat.count p n
  | 0 => by simp
  | n + 1 => by
    simp only [Nat.count_succ, Finset.sum_add_distrib, count_split f p n]
    by_cases hp : p n
    · simp [hp]
    · simp [hp]

theorem sum_rest (p : ℕ → Prop) [DecidablePred p] : ∀ n, ∑ i ∈ Finset.range n, (if p i then 0 else 1) + Nat.count p n = n
  | 0 => by simp
  | n + 1 => by
    have := sum_rest p n
    rw [Finset.sum_range_succ, Nat.count_succ]
    by_cases hp : p n
    · rw [if_pos hp, if_pos hp]; omega
    · rw [if_neg hp, if_neg hp]; omega

theorem sum_pairs (g : ℕ → ℕ) : ∀ n, ∑ t ∈ Finset.range n, (g (2 * t) + g (2 * t + 1)) = ∑ i ∈ Finset.range (2 * n), g i
  | 0 => by simp
  | n + 1 => by
    rw [show 2 * (n + 1) = 2 * n + 1 + 1 by ring, Finset.sum_range_succ, Finset.sum_range_succ, Finset.sum_range_succ, sum_pairs g n]
    ring

theorem sum_slots (p : ℕ → Prop) [DecidablePred p] (n N : ℕ) (hN : 2 * n = N) :
    ∑ t : Fin n, ∑ s : Fin 2, (if p (2 * t.val + s.val) then 0 else 1) + Nat.count p N = N := by
  subst hN
  have h := sum_rest p (2 * n)
  rw [← sum_pairs (fun i => if p i then 0 else 1), ← Fin.sum_univ_eq_sum_range
    (fun t => (if p (2 * t) then 0 else 1) + (if p (2 * t + 1) then 0 else 1))] at h
  simp only [Fin.sum_univ_two]
  exact h

theorem bit_zero (m : BitVec 1) (h : ¬m = 1#1) : m = 0#1 := by
  revert m; decide

end Cert.Route

namespace Cert.ReferenceIdeal.Queue

open Cert.ReferenceIdeal Cert.ReferenceIdeal.Gen Cert.ReferenceIdeal.Read Cert.Route Idealize.ShloMosaic

section

variable (v : ℕ → Fin 64 → EReal)

theorem place_flat (i : ℕ) : place v i = Nat.count (fun j => flat v j = flat v i) i :=
  count_ext _ _ (fun j => Fin.val_inj) i

theorem load_count (hv : ∀ t e, ⊥ < v t e) (e : Fin 64) :
    Route.load v e = Nat.count (fun i => flat v i = e ∧ place v i < 1280) 65536 := by
  unfold Route.load
  rw [← count_flat v hv e 32768, ← count_fits]
  refine count_ext _ _ (fun i => and_congr_right fun h => ?_) _
  rw [place_flat, h]

theorem load_sum (hv : ∀ t e, ⊥ < v t e) : ∑ e : Fin 64, Route.load v e = Nat.count (fun i => place v i < 1280) 65536 := by
  rw [← count_split (flat v)]
  exact Finset.sum_congr rfl fun e _ => load_count v hv e

theorem load_le (e : Fin 64) : Route.load v e ≤ 1280 := min_le_right _ _

/-- The entry a request adds to: its expert, or the one past the last when it finds no room. -/
def target (i : ℕ) : ℕ := if place v i < 1280 then key v i else 64

theorem target_small (i : ℕ) : target v i < 2 ^ 31 := by
  have := key_lt v i
  unfold target
  split <;> omega

theorem target_iff (i : ℕ) (e : Fin 64) : target v i = e.val ↔ flat v i = e ∧ place v i < 1280 := by
  have he := e.isLt
  unfold target
  split
  · next h => exact ⟨fun h' => ⟨Fin.ext h', h⟩, fun h' => congrArg Fin.val h'.1⟩
  · next h => exact ⟨fun h' => absurd h' (by omega), fun h' => absurd h'.2 h⟩

end

variable (x0 : (⟨S4x8192x768, .f32⟩ : BufTy).Contents (Elt Ideal)) (x1 : (⟨S64x768, .f32⟩ : BufTy).Contents (Elt Ideal))
  (x2 : (⟨S64, .f32⟩ : BufTy).Contents (Elt Ideal)) (v : ℕ → Fin 64 → EReal)
  (hi : ∀ (t : Fin 32768) (s : Fin 2), val_main_indices (F := Ideal) x0 x1 x2 (ix2 t s) = BitVec.ofNat 32 (pick (v t) s).val)
  (hv : ∀ t e, ⊥ < v t e)

include hi

theorem v72_at (i : Fin 65536) : val_main_v72 (F := Ideal) x0 x1 x2 (ix1 i) = val_main_v63 (F := Ideal) x0 x1 x2 (ix1 i) := by
  rw [val_main_v72_apply, val_main_v64_apply]
  refine congrArg _ (funext fun a => ?_)
  match a with
  | 0 => exact Fin.ext (show i.val / 2 * 2 + i.val % 2 = i.val by omega)

theorem v82_at (i : Fin 65536) : val_main_v82 (F := Ideal) x0 x1 x2 (ix2 i 0) = BitVec.ofNat 32 (target v i) := by
  have e : idx_main_v82 (ix2 i 0) = ix1 i := by
    funext a
    match a with
    | 0 => rfl
  have h73 : val_main_v73 (F := Ideal) x0 x1 x2 (ix1 i) = BitVec.ofNat 32 (key v i) := v22_at x0 x1 x2 v hi i
  have h74 : val_main_v74 (F := Ideal) x0 x1 x2 (ix1 i) = BitVec.ofNat 32 (target v i) := by
    rw [val_main_v74_apply, v72_at x0 x1 x2 v hi, h73, val_main_call5_v1_apply, val_main_call5_v0_apply, val_main_c_16_apply,
      Literals.select_iff (v63_at x0 x1 x2 v hi i)]
    unfold target
    split <;> rfl
  rw [val_main_v82_apply, e, val_main_v81_apply, val_main_v78_apply, val_main_v80_apply, val_main_v77_apply, val_main_c_19_apply,
    val_main_v76_apply, val_main_call6_v1_apply, val_main_call6_v0_apply, val_main_c_18_apply, h74,
    max_ofNat _ (target_small v _), wrap_ofNat _ _ (target_small v _)]

include hv

theorem v85_at (e : Fin 64) : val_main_v85 (F := Ideal) x0 x1 x2 (ix1 e) = BitVec.ofNat 32 (Route.load v e) := by
  have he := e.isLt
  have e' : idx_main_v85 (ix1 e) = ix1 (⟨e.val, by omega⟩ : Fin 65) := by
    funext a
    match a with
    | 0 => rfl
  rw [val_main_v85_apply, e', load_count v hv]
  unfold val_main_v84
  refine (histogram scatter_S65_S65536x1_S65536_n_0_0_1_wf _ _ _ (fun e => ?_) (fun i => ?_) (target v)
    (v82_at x0 x1 x2 v hi) (fun r => target_small v _) (⟨e.val, by omega⟩ : Fin 65)).trans
    (congrArg (BitVec.ofNat 32) (count_ext _ _ (fun i => target_iff v i e) _))
  · rw [val_main_v75_apply, val_main_c_17_apply]
  · rw [val_main_v83_apply, val_main_c_21_apply]

theorem v86_at (e : Fin 64) : val_main_v86 (F := Ideal) x0 x1 x2 (ix1 e) = ((Route.load v e : ℕ) : EReal) := by
  have hl := load_le v e
  rw [val_main_v86_apply, v85_at x0 x1 x2 v hi hv]
  show (((BitVec.ofNat 32 (Route.load v e)).toInt : ℝ) : EReal) = _
  rw [StableHlo.Predicate.toInt_ofNat_small _ (by omega), Int.cast_natCast, EReal.coe_natCast]

theorem zero_add_read (a : EReal) : Ideal.ofBits .f32 0x00000000#32 + a = a := by
  rw [show Ideal.ofBits .f32 0x00000000#32 = 0 by simp [Ideal.ofBits, Ideal.ieee], zero_add]

/-- The third result. -/
theorem v93_at (i : S_.Idx) : val_main_v93 (F := Ideal) x0 x1 x2 i = loadLoss v := by
  have h : ∀ e : Fin 64, val_main_v90 (F := Ideal) x0 x1 x2 (ix1 e)
      = Ideal.div ((Route.load v e : ℕ) : EReal) ((65536 : ℝ) : EReal) - ((1 / 64 : ℝ) : EReal) := fun e => by
    rw [val_main_v90_apply, val_main_v88_apply, v86_at x0 x1 x2 v hi hv, val_main_v87_apply, val_main_cst_22_apply, val_main_v89_apply,
      val_main_cst_23_apply]
    show Ideal.div _ (Ideal.ofBits .f32 0x47800000#32) - Ideal.ofBits .f32 0x3C800000#32 = _
    rw [Literals.requests, Literals.share]
  rw [val_main_v93_apply, val_main_v92_apply, val_main_cst_24_apply, val_main_cst_25_apply, sum_idx1]
  show Ideal.div (Ideal.ofBits .f32 0x00000000#32 + _) (Ideal.ofBits .f32 0x42800000#32) = _
  rw [zero_add_read x0 x1 x2 v hi hv, Literals.experts]
  refine congrArg (fun a => Ideal.div a ((64 : ℝ) : EReal)) (Finset.sum_congr rfl fun e _ => ?_)
  rw [val_main_v91_apply, h]
  rfl

/-- The first result. -/
theorem v69_at (t : Fin 32768) (s : Fin 2) : val_main_v69 (F := Ideal) x0 x1 x2 (ix2 t s) = expertOut v t s := by
  have hm := v64_at x0 x1 x2 v hi hv t s
  rw [val_main_v69_apply, val_main_v66_apply, val_main_v68_apply, val_main_v65_apply, val_main_v67_apply, hi]
  generalize val_main_v64 (F := Ideal) x0 x1 x2 (ix2 t s) = m at hm ⊢
  unfold expertOut
  by_cases h : Room v t s
  · rw [if_pos h, hm.mpr h]
    show BitVec.ofNat 32 _ * 1#32 - 0#32 = _
    rw [BitVec.mul_one, BitVec.sub_zero]
  · have h0 : m = 0#1 := bit_zero m fun h' => h (hm.mp h')
    rw [if_neg h, h0]
    show BitVec.ofNat 32 _ * 0#32 - 1#32 = _
    rw [BitVec.mul_zero]
    rfl

/-- The fifth result. -/
theorem v105_at (i : S_.Idx) : val_main_v105 (F := Ideal) x0 x1 x2 i = overflow v := by
  have hg : ∀ (t : Fin 32768) (s : Fin 2), val_main_v103 (F := Ideal) x0 x1 x2 (ix2 t s)
      = ((if place v (2 * t.val + s.val) < 1280 then 0 else 1 : ℕ) : EReal) := fun t s => by
    have ht := t.isLt
    have hs := s.isLt
    have e : idx_main_v64 (ix2 t s) = ix1 (⟨2 * t.val + s.val, by omega⟩ : Fin 65536) := by
      funext a
      match a with
      | 0 => exact Fin.ext (show t.val * 2 + s.val = 2 * t.val + s.val by omega)
    have hm := v63_at x0 x1 x2 v hi (⟨2 * t.val + s.val, by omega⟩ : Fin 65536)
    rw [val_main_v103_apply, val_main_v102_apply, val_main_v64_apply, e]
    generalize val_main_v63 (F := Ideal) x0 x1 x2 (ix1 (⟨2 * t.val + s.val, by omega⟩ : Fin 65536)) = m at hm ⊢
    show (((~~~m).toNat : ℝ) : EReal) = _
    by_cases h : place v (2 * t.val + s.val) < 1280
    · rw [if_pos h, hm.mpr h]
      simp
    · have h0 : m = 0#1 := bit_zero m fun h' => h (hm.mp h')
      rw [if_neg h, h0]
      simp
  have hs : ∑ t : Fin 32768, ∑ s : Fin 2, (if place v (2 * t.val + s.val) < 1280 then 0 else 1) + ∑ e : Fin 64, Route.load v e = 65536 := by
    rw [load_sum v hv]
    exact sum_slots (fun i => place v i < 1280) 32768 65536 (by norm_num)
  rw [val_main_v105_apply, val_main_v104_apply, val_main_cst_31_apply, val_main_cst_32_apply, sum_idx2]
  show Ideal.div (Ideal.ofBits .f32 0x00000000#32 + _) (Ideal.ofBits .f32 0x47800000#32) = _
  rw [zero_add_read x0 x1 x2 v hi hv, Literals.requests]
  refine congrArg (fun a => Ideal.div a ((65536 : ℝ) : EReal)) ?_
  simp only [hg]
  simp only [← Nat.cast_sum]
  generalize ∑ t : Fin 32768, ∑ s : Fin 2, (if place v (2 * t.val + s.val) < 1280 then 0 else 1) = a at hs ⊢
  generalize ∑ e : Fin 64, Route.load v e = b at hs ⊢
  have : (65536 : ℝ) = (a : ℝ) + (b : ℝ) := by rw [← Nat.cast_add, hs]; norm_num
  rw [this, ← EReal.coe_natCast, ← EReal.coe_natCast, ← EReal.coe_sub]
  norm_num

end Cert.ReferenceIdeal.Queue

end
-- ==== Proof.Softmax.lean ====
/- The softmax of a row of numbers: it orders the experts as the scores do, and the two greatest probabilities, made to sum to
   one, are the router's weights. -/
module

public import proofs.«01_k».proof.Proof.Spec
public import proofs.«01_k».proof.Proof.Literals
public import Mathlib.Analysis.SpecialFunctions.Exp

@[expose] public section

noncomputable section

namespace Cert.Route

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul]; congr 1; ring

/-- The softmax, dividing each exponential by their sum. -/
def soft (v : Fin 64 → EReal) (e : Fin 64) : EReal :=
  Ideal.div (Ideal.exp (v e - v (first v))) (∑ e' : Fin 64, Ideal.exp (v e' - v (first v)))

variable (r : Fin 64 → ℝ)

/-- A row of numbers. -/
def reals : Fin 64 → EReal := fun e => (r e : EReal)

/-- The sum of the exponentials. -/
def total : ℝ := ∑ e : Fin 64, Real.exp (r e - r (first (reals r)))

theorem total_pos : 0 < total r := Finset.sum_pos (fun _ _ => Real.exp_pos _) ⟨0, Finset.mem_univ _⟩

theorem le_first (e : Fin 64) : r e ≤ r (first (reals r)) := EReal.coe_le_coe_iff.mp ((first_spec (reals r)).1 e)

theorem total_le : total r ≤ 64 := by
  refine (Finset.sum_le_card_nsmul _ _ 1 fun e _ => ?_).trans (by simp)
  rw [← Real.exp_zero]
  exact Real.exp_le_exp.mpr (by linarith [le_first r e])

theorem exp_sub (e : Fin 64) : Ideal.exp (reals r e - reals r (first (reals r))) = ((Real.exp (r e - r (first (reals r))) : ℝ) : EReal) := by
  unfold reals
  rw [← EReal.coe_sub, Ideal.exp_coe]

theorem exp_total : ∑ e : Fin 64, Ideal.exp (reals r e - reals r (first (reals r))) = ((total r : ℝ) : EReal) := by
  rw [Finset.sum_congr rfl fun e _ => exp_sub r e, coe_sum]; rfl

theorem soft_real (e : Fin 64) : soft (reals r) e = ((Real.exp (r e - r (first (reals r))) / total r : ℝ) : EReal) := by
  unfold soft
  rw [exp_total, exp_sub, div_real _ _ (total_pos r).ne']

theorem soft_eq_prob : soft (reals r) = prob (reals r) := by
  funext e
  rw [soft_real]
  unfold prob
  rw [exp_total, exp_sub, show (1 : EReal) = ((1 : ℝ) : EReal) by norm_cast, div_real _ _ (total_pos r).ne', ← EReal.coe_mul]
  congr 1; ring

theorem soft_lt_iff (a b : Fin 64) : soft (reals r) a < soft (reals r) b ↔ reals r a < reals r b := by
  rw [soft_real, soft_real]
  unfold reals
  rw [EReal.coe_lt_coe_iff, EReal.coe_lt_coe_iff, div_lt_div_iff_of_pos_right (total_pos r), Real.exp_lt_exp]
  exact ⟨fun h => by linarith, fun h => by linarith⟩

theorem bot_lt_reals (e : Fin 64) : ⊥ < reals r e := EReal.bot_lt_coe _

/-- The sum of the two greatest probabilities, cut from below, is that sum. -/
theorem floor_soft : max (Ideal.ofBits .f32 0x358637BD#32) (soft (reals r) (first (reals r)) + soft (reals r) (second (reals r)))
    = soft (reals r) (first (reals r)) + soft (reals r) (second (reals r)) := by
  refine max_eq_right (Literals.floor_le.trans ?_)
  rw [soft_real, soft_real, ← EReal.coe_add, EReal.coe_le_coe_iff]
  have h1 := total_pos r
  have h2 := total_le r
  have h3 : 1 / 64 ≤ Real.exp (r (first (reals r)) - r (first (reals r))) / total r := by
    rw [sub_self, Real.exp_zero]
    exact one_div_le_one_div_of_le h1 h2
  have h4 : 0 ≤ Real.exp (r (second (reals r)) - r (first (reals r))) / total r := by positivity
  linarith

theorem soft_weight (s : Fin 2) :
    Ideal.div (soft (reals r) (pick (reals r) s)) (soft (reals r) (first (reals r)) + soft (reals r) (second (reals r))) = weight (reals r) s := by
  have h1 := total_pos r
  unfold weight odds
  rw [exp_sub, show (1 : EReal) = ((1 : ℝ) : EReal) by norm_cast, ← EReal.coe_add]
  have h2 : 0 < Real.exp (r (second (reals r)) - r (first (reals r))) := Real.exp_pos _
  rw [div_real _ _ (by positivity), ← EReal.coe_mul, soft_real, soft_real, soft_real, ← EReal.coe_add, div_real _ _ (by positivity), sub_self, Real.exp_zero]
  match s with
  | 0 =>
    show ((Real.exp (r (first (reals r)) - r (first (reals r))) / total r / (1 / total r + _) : ℝ) : EReal) = _
    rw [if_pos rfl, sub_self, Real.exp_zero]
    congr 1; field_simp
  | 1 =>
    show ((Real.exp (r (second (reals r)) - r (first (reals r))) / total r / (1 / total r + _) : ℝ) : EReal) = _
    rw [if_neg (by decide)]
    congr 1; field_simp

end Cert.Route

end
-- ==== Proof.Probs.lean ====
/- The reference's scores, probabilities, choices and weights, and its results that need them. -/
module

public import proofs.«01_k».proof.Proof.Loads
public import proofs.«01_k».proof.Proof.Softmax
public import proofs.«01_k».proof.Proof.Choice
public import Idealize.ShloMosaic.Lib.Pointwise

@[expose] public section

noncomputable section

namespace Cert.ReferenceIdeal.Queue

open Cert.ReferenceIdeal Cert.ReferenceIdeal.Gen Cert.ReferenceIdeal.Read Cert.Route Idealize.ShloMosaic

theorem row_max (y : FVec Ideal S32768x64 .f32) (t : Fin 32768) :
    Host.reduce (FloatOps.maximumf (F := Ideal) (φ := .f32)) y (constant S_ .f32 0xFF800000#32) reducesTo_S32768x64_S32768_d1 h_S_ (ix1 t)
      = Finset.univ.fold max ⊥ (fun e : Fin 64 => y (ix2 t e)) := by
  pointwise
  rw [Literals.negInf]

variable (x0 : (⟨S4x8192x768, .f32⟩ : BufTy).Contents (Elt Ideal)) (x1 : (⟨S64x768, .f32⟩ : BufTy).Contents (Elt Ideal))
  (x2 : (⟨S64, .f32⟩ : BufTy).Contents (Elt Ideal))

theorem v5_at (t : Fin 32768) (e : Fin 64) : val_main_v5 (F := Ideal) x0 x1 x2 (ix2 t e) = score x0 x1 x2 t e := by
  have ht := t.isLt
  rw [val_main_v5_apply, val_main_v2_apply, val_main_v4_apply, val_main_v3_apply]
  show (_ : EReal) + _ = _
  unfold score
  congr 1
  · refine Finset.sum_congr rfl fun k _ => ?_
    have hk := k.isLt
    rw [val_main_v0_apply, val_main_v1_apply, mul_comm]
    congr 1
    · refine congrArg x1 (funext fun a => ?_)
      match a with
      | 0 => rfl
      | 1 => rfl
    · refine congrArg x0 (funext fun a => ?_)
      match a with
      | 0 => exact Fin.ext (show (t.val * 768 + k.val) / 6291456 = t.val / 8192 % 4 by omega)
      | 1 => exact Fin.ext (show (t.val * 768 + k.val) / 768 % 8192 = t.val % 8192 by omega)
      | 2 => exact Fin.ext (show (t.val * 768 + k.val) % 768 = k.val by omega)
  · refine congrArg x2 (funext fun a => ?_)
    match a with
    | 0 => rfl

variable (R : ℕ → Fin 64 → ℝ) (hR : ∀ (t : Fin 32768) (e : Fin 64), score x0 x1 x2 t e = ((R t e : ℝ) : EReal))

include hR

theorem v5_real (t : Fin 32768) (e : Fin 64) : val_main_v5 (F := Ideal) x0 x1 x2 (ix2 t e) = reals (R t) e :=
  (v5_at x0 x1 x2 t e).trans (hR t e)

theorem v8_at (t : Fin 32768) : val_main_v8 (F := Ideal) x0 x1 x2 (ix1 t) = reals (R t) (first (reals (R t))) := by
  have h6 : val_main_v6 (F := Ideal) x0 x1 x2 (ix1 t) = reals (R t) (first (reals (R t))) := by
    refine (row_max (val_main_v5 (F := Ideal) x0 x1 x2) t).trans ?_
    rw [show (fun e : Fin 64 => val_main_v5 (F := Ideal) x0 x1 x2 (ix2 t e)) = reals (R t) from funext (v5_real x0 x1 x2 R hR t)]
    exact fold_max_first _
  rw [val_main_v8_apply, val_main_v7_apply, val_main_cst_0_apply, h6]
  show max (Ideal.ofBits .f32 0xFF800000#32) _ = _
  rw [Literals.negInf]
  exact max_eq_right bot_le

theorem v12_at (t : Fin 32768) (e : Fin 64) :
    val_main_v12 (F := Ideal) x0 x1 x2 (ix2 t e) = Ideal.exp (reals (R t) e - reals (R t) (first (reals (R t)))) := by
  have e' : idx_main_v9 (idx_main_v10 (ix2 t e)) = ix1 t := by
    funext a
    match a with
    | 0 => rfl
  rw [val_main_v12_apply, val_main_v11_apply, v5_real x0 x1 x2 R hR, val_main_v10_apply, val_main_v9_apply, e', v8_at x0 x1 x2 R hR]
  rfl

theorem v16_at (t : Fin 32768) (e : Fin 64) : val_main_v16 (F := Ideal) x0 x1 x2 (ix2 t e) = soft (reals (R t)) e := by
  have e' : idx_main_v14 (idx_main_v15 (ix2 t e)) = ix1 t := by
    funext a
    match a with
    | 0 => rfl
  have e'' : ∀ k : Fin 64, idx_main_v13 (ix1 t) k = ix2 t k := fun k => by
    funext a
    match a with
    | 0 => rfl
    | 1 => rfl
  rw [val_main_v16_apply, v12_at x0 x1 x2 R hR, val_main_v15_apply, val_main_v14_apply, e', val_main_v13_apply, val_main_cst_1_apply]
  simp only [e'', v12_at x0 x1 x2 R hR]
  show Ideal.div _ (Ideal.ofBits .f32 0x00000000#32 + _) = _
  rw [show Ideal.ofBits .f32 0x00000000#32 = 0 by simp [Ideal.ofBits, Ideal.ieee], zero_add]
  rfl

theorem top_at (t : Fin 32768) (s : Fin 2) :
    sortedFrom (fun k k' => decide (val_main_v16 (F := Ideal) x0 x1 x2 (ix2 t k') < val_main_v16 (F := Ideal) x0 x1 x2 (ix2 t k)))
      (s.castLE (by decide : 2 ≤ 64)) = pick (reals (R t)) s :=
  sorted_pick (fun e => val_main_v16 (F := Ideal) x0 x1 x2 (ix2 t e)) (reals (R t))
    (fun a b => by rw [v16_at x0 x1 x2 R hR, v16_at x0 x1 x2 R hR]; exact soft_lt_iff (R t) a b) (bot_lt_reals (R t)) s

theorem values_at (t : Fin 32768) (s : Fin 2) :
    val_main_values (F := Ideal) x0 x1 x2 (ix2 t s) = soft (reals (R t)) (pick (reals (R t)) s) := by
  unfold val_main_values
  refine (topK_values (by decide) _ sliceFits_S32768x64_S32768x2 t s).trans ?_
  rw [top_at x0 x1 x2 R hR t s, v16_at x0 x1 x2 R hR]

theorem indices_at (t : Fin 32768) (s : Fin 2) :
    val_main_indices (F := Ideal) x0 x1 x2 (ix2 t s) = BitVec.ofNat 32 (pick (reals (R t)) s).val := by
  unfold val_main_indices
  refine (topK_indices (by decide) _ sliceFits_S32768x64_S32768x2 t s).trans ?_
  rw [top_at x0 x1 x2 R hR t s]

theorem v21_at (t : Fin 32768) (s : Fin 2) : val_main_v21 (F := Ideal) x0 x1 x2 (ix2 t s) = weight (reals (R t)) s := by
  have e' : idx_main_v18 (idx_main_v20 (ix2 t s)) = ix1 t := by
    funext a
    match a with
    | 0 => rfl
  have e'' : ∀ k : Fin 2, idx_main_v17 (ix1 t) k = ix2 t k := fun k => by
    funext a
    match a with
    | 0 => rfl
    | 1 => rfl
  rw [val_main_v21_apply, values_at x0 x1 x2 R hR, val_main_v20_apply, val_main_v19_apply, val_main_call0_v1_apply, val_main_call0_v0_apply,
    val_main_cst_3_apply, val_main_v18_apply, e', val_main_v17_apply, val_main_cst_2_apply]
  simp only [e'', values_at x0 x1 x2 R hR, Fin.sum_univ_two]
  show Ideal.div _ (max (Ideal.ofBits .f32 0x358637BD#32) (Ideal.ofBits .f32 0x00000000#32
    + (soft (reals (R t)) (first (reals (R t))) + soft (reals (R t)) (second (reals (R t)))))) = _
  rw [show Ideal.ofBits .f32 0x00000000#32 = 0 by simp [Ideal.ofBits, Ideal.ieee], zero_add, floor_soft]
  exact soft_weight (R t) s

/-- The second result. -/
theorem v71_at (t : Fin 32768) (s : Fin 2) :
    val_main_v71 (F := Ideal) x0 x1 x2 (ix2 t s) = weightOut (fun t => reals (R t)) t s := by
  have hm := v64_at x0 x1 x2 (fun t => reals (R t)) (indices_at x0 x1 x2 R hR) (fun t => bot_lt_reals (R t)) t s
  rw [val_main_v71_apply, val_main_v70_apply, v21_at x0 x1 x2 R hR]
  generalize val_main_v64 (F := Ideal) x0 x1 x2 (ix2 t s) = m at hm ⊢
  show weight (reals (R t)) s * ((m.toNat : ℝ) : EReal) = _
  unfold weightOut
  by_cases h : Room (fun t => reals (R t)) t s
  · rw [if_pos h, hm.mpr h]
    simp
  · rw [if_neg h, bit_zero m fun h' => h (hm.mp h')]
    simp

/-- The fourth result. -/
theorem v101_at (i : S_.Idx) : val_main_v101 (F := Ideal) x0 x1 x2 i = importanceLoss fun t => reals (R t) := by
  have e' : ∀ (e : Fin 64) (k : Fin 32768), idx_main_v94 (ix1 e) k = ix2 k e := fun e k => by
    funext a
    match a with
    | 0 => rfl
    | 1 => rfl
  have h : ∀ e : Fin 64, val_main_v98 (F := Ideal) x0 x1 x2 (ix1 e)
      = Ideal.div (∑ t ∈ Finset.range 32768, prob (reals (R t)) e) ((32768 : ℝ) : EReal) - ((1 / 64 : ℝ) : EReal) := fun e => by
    rw [val_main_v98_apply, val_main_v96_apply, val_main_v94_apply, val_main_cst_26_apply, val_main_v95_apply, val_main_cst_27_apply,
      val_main_v97_apply, val_main_cst_28_apply]
    simp only [e', v16_at x0 x1 x2 R hR, soft_eq_prob]
    show Ideal.div (Ideal.ofBits .f32 0x00000000#32 + _) (Ideal.ofBits .f32 0x47000000#32) - Ideal.ofBits .f32 0x3C800000#32 = _
    rw [Literals.tokens, Literals.share, show Ideal.ofBits .f32 0x00000000#32 = 0 by simp [Ideal.ofBits, Ideal.ieee], zero_add]
    exact congrArg (fun a => Ideal.div a ((32768 : ℝ) : EReal) - ((1 / 64 : ℝ) : EReal))
      (Fin.sum_univ_eq_sum_range (fun t => prob (reals (R t)) e) 32768)
  rw [val_main_v101_apply, val_main_v100_apply, val_main_cst_29_apply, val_main_cst_30_apply, sum_idx1]
  show Ideal.div (Ideal.ofBits .f32 0x00000000#32 + _) (Ideal.ofBits .f32 0x42800000#32) = _
  rw [show Ideal.ofBits .f32 0x00000000#32 = 0 by simp [Ideal.ofBits, Ideal.ieee], zero_add, Literals.experts]
  refine congrArg (fun a => Ideal.div a ((64 : ℝ) : EReal)) (Finset.sum_congr rfl fun e _ => ?_)
  rw [val_main_v99_apply, h]
  rfl

end Cert.ReferenceIdeal.Queue

end
-- ==== Proof.Finite.lean ====
/- What finite arguments give: every score is a real number. -/
module

public import proofs.«01_k».proof.Pre_finite
public import proofs.«01_k».proof.Proof.Spec
public import proofs.«01_k».proof.Proof.Literals
public import proofs.«01_k».proof.Proof.Softmax
public import Idealize.ShloMosaic.Lib.Pointwise

@[expose] public section

noncomputable section

namespace Cert.Finite

open Idealize.ShloMosaic

theorem facts : Cert.Pre_finite.Facts where
  bcast_S_S4x8192x768 := by decide
  bcast_S_S64x768 := by decide
  bcast_S_S64 := by decide

/-- A number whose absolute value is below +∞ is real. -/
theorem real_of_abs (a : EReal) (h : Ideal.cmp .olt (max a (-a)) (Ideal.ofBits .f32 0x7F800000#32) = 1#1) : ((a.toReal : ℝ) : EReal) = a := by
  rw [Literals.posInf] at h
  have h' : max a (-a) < ⊤ := (Literals.ofBool_iff _).mp h
  refine EReal.coe_toReal (fun e => ?_) fun e => ?_
  · rw [e] at h'
    simp at h'
  · rw [e] at h'
    simp at h'

theorem reals_of_fn [Cert.Pre_finite.Facts] (x : FVec Ideal Cert.Pre_finite.S4x8192x768 .f32) (w : FVec Ideal Cert.Pre_finite.S64x768 .f32)
    (b : FVec Ideal Cert.Pre_finite.S64 .f32) (hx : (Cert.Pre_finite.fn x w b).1 = fun _ => 1#1) (hw : (Cert.Pre_finite.fn x w b).2.1 = fun _ => 1#1)
    (hb : (Cert.Pre_finite.fn x w b).2.2 = fun _ => 1#1) :
    (∀ i, (((x i : EReal).toReal : ℝ) : EReal) = x i) ∧ (∀ i, (((w i : EReal).toReal : ℝ) : EReal) = w i)
      ∧ ∀ i, (((b i : EReal).toReal : ℝ) : EReal) = b i :=
  ⟨fun i => real_of_abs _ (congrFun hx i), fun i => real_of_abs _ (congrFun hw i), fun i => real_of_abs _ (congrFun hb i)⟩

/-- The scores as real numbers. -/
theorem score_real (x : (⟨3, ![4, 8192, 768]⟩ : Shape).Idx → EReal) (w : (⟨2, ![64, 768]⟩ : Shape).Idx → EReal) (b : (⟨1, ![64]⟩ : Shape).Idx → EReal)
    (hx : ∀ i, (((x i).toReal : ℝ) : EReal) = x i) (hw : ∀ i, (((w i).toReal : ℝ) : EReal) = w i) (hb : ∀ i, (((b i).toReal : ℝ) : EReal) = b i) (t : ℕ) (e : Fin 64) :
    (((Route.score x w b t e).toReal : ℝ) : EReal) = Route.score x w b t e := by
  have : ∃ r : ℝ, Route.score x w b t e = (r : EReal) := by
    refine ⟨(∑ k : Fin 768, (w (ix2 e k)).toReal * (x (ix3 ⟨t / 8192 % 4, Nat.mod_lt _ (by decide)⟩ ⟨t % 8192, Nat.mod_lt _ (by decide)⟩ k)).toReal)
      + (b (ix1 e)).toReal, ?_⟩
    unfold Route.score
    rw [EReal.coe_add, ← Route.coe_sum, hb]
    refine congrArg (fun a => a + b (ix1 e)) (Finset.sum_congr rfl fun k _ => ?_)
    rw [EReal.coe_mul, hw, hx]
  obtain ⟨r, hr⟩ := this
  rw [hr, EReal.toReal_coe]

end Cert.Finite

end
-- ==== Proof.Equal.lean ====
/- The five results of the kernel are the reference's. -/
module

public import proofs.«01_k».proof.Proof.Inputs
public import proofs.«01_k».proof.Proof.Probs
public import proofs.«01_k».proof.Proof.Finite

@[expose] public section

noncomputable section

namespace Cert.KernelIdeal.Chunk

open Cert.KernelIdeal Cert.KernelIdeal.Gen Idealize.ShloMosaic Idealize.SL.Sem Cert.Route

variable (m : (ℓ : Loc nD τ sig) → Buf (Elt Ideal) ℓ) (c : Dev nD)

/-- The three arguments. -/
abbrev argX : (⟨3, ![4, 8192, 768]⟩ : Shape).Idx → EReal := m (c, Proc.devRef .tc main_arg0)
abbrev argW : (⟨2, ![64, 768]⟩ : Shape).Idx → EReal := m (c, Proc.devRef .tc main_arg1)
abbrev argB : (⟨1, ![64]⟩ : Shape).Idx → EReal := m (c, Proc.devRef .tc main_arg2)

/-- The scores as real numbers. -/
def real (t : ℕ) (e : Fin 64) : ℝ := (score (argX m c) (argW m c) (argB m c) t e).toReal

variable (hx : ∀ i, (((argX m c i).toReal : ℝ) : EReal) = argX m c i) (hw : ∀ i, (((argW m c i).toReal : ℝ) : EReal) = argW m c i)
  (hb : ∀ i, (((argB m c i).toReal : ℝ) : EReal) = argB m c i)

include hx hw hb

theorem score_eq (t : ℕ) (e : Fin 64) : score (argX m c) (argW m c) (argB m c) t e = ((real m c t e : ℝ) : EReal) :=
  (Finite.score_real _ _ _ hx hw hb t e).symm

theorem rows_eq : row (chunk m c) = fun t => reals (real m c t) := by
  funext t
  rw [row_chunk]
  funext e
  exact score_eq m c hx hw hb t e

theorem rows_bot (t : ℕ) (e : Fin 64) : ⊥ < row (chunk m c) t e := by
  rw [rows_eq m c hx hw hb]
  exact bot_lt_reals _ e

theorem experts_equal : transpose S32768x2 [1, 0] (idxAll m c) transposes_S2x32768_S32768x2_1_0
    = Cert.ReferenceIdeal.Read.val_main_v69 (F := Ideal) (argX m c) (argW m c) (argB m c) := by
  funext i
  obtain ⟨t, s, rfl⟩ : ∃ (t : Fin 32768) (s : Fin 2), i = ix2 t s := ⟨i 0, i 1, eq_ix2 i⟩
  rw [Cert.ReferenceIdeal.Queue.v69_at _ _ _ (fun t => reals (real m c t))
    (Cert.ReferenceIdeal.Queue.indices_at _ _ _ (real m c) fun t e => score_eq m c hx hw hb t e) (fun t => bot_lt_reals _) t s]
  refine (transpose_apply [1, 0] (idxAll m c) transposes_S2x32768_S32768x2_1_0 (ix2 t s) (ix2 s t) (fun b => match b with
    | ⟨0, _⟩ => rfl
    | ⟨1, _⟩ => rfl)).trans ?_
  refine (idxOut_row (chunk m c) (t.val / 128) s ⟨t.val % 128, Nat.mod_lt _ (by decide)⟩).trans ?_
  rw [rows_eq m c hx hw hb]
  exact congrArg (fun n => expertOut _ n s) (show 128 * (t.val / 128) + t.val % 128 = t.val by omega)

theorem weights_equal : transpose S32768x2 [1, 0] (wtAll m c) transposes_S2x32768_S32768x2_1_0
    = Cert.ReferenceIdeal.Read.val_main_v71 (F := Ideal) (argX m c) (argW m c) (argB m c) := by
  funext i
  obtain ⟨t, s, rfl⟩ : ∃ (t : Fin 32768) (s : Fin 2), i = ix2 t s := ⟨i 0, i 1, eq_ix2 i⟩
  rw [Cert.ReferenceIdeal.Queue.v71_at _ _ _ (real m c) (fun t e => score_eq m c hx hw hb t e) t s]
  refine (transpose_apply [1, 0] (wtAll m c) transposes_S2x32768_S32768x2_1_0 (ix2 t s) (ix2 s t) (fun b => match b with
    | ⟨0, _⟩ => rfl
    | ⟨1, _⟩ => rfl)).trans ?_
  refine (wtOut_row (chunk m c) (rows_bot m c hx hw hb) (t.val / 128) s ⟨t.val % 128, Nat.mod_lt _ (by decide)⟩).trans ?_
  rw [rows_eq m c hx hw hb]
  exact congrArg (fun n => weightOut _ n s) (show 128 * (t.val / 128) + t.val % 128 = t.val by omega)

omit hx hw hb in
theorem scalar_read (y : S1x1.Idx → EReal) (i : S_.Idx) : shapeCast S_ y shapeCasts_S1x1_S_ i = y (ix2 0 0) := by
  pointwise

theorem loadLoss_equal : shapeCast S_ (loadOut (F := Ideal) (cntUpTo (chunk m c) 256)) shapeCasts_S1x1_S_
    = Cert.ReferenceIdeal.Read.val_main_v93 (F := Ideal) (argX m c) (argW m c) (argB m c) := by
  funext i
  rw [Cert.ReferenceIdeal.Queue.v93_at _ _ _ (fun t => reals (real m c t))
    (Cert.ReferenceIdeal.Queue.indices_at _ _ _ (real m c) fun t e => score_eq m c hx hw hb t e) (fun t => bot_lt_reals _) i]
  refine (scalar_read _ i).trans ((loadOut_row (chunk m c)).trans ?_)
  rw [rows_eq m c hx hw hb]

theorem importanceLoss_equal : shapeCast S_ (importanceOut (F := Ideal) (impUpTo (chunk m c) 256)) shapeCasts_S1x1_S_
    = Cert.ReferenceIdeal.Read.val_main_v101 (F := Ideal) (argX m c) (argW m c) (argB m c) := by
  funext i
  rw [Cert.ReferenceIdeal.Queue.v101_at _ _ _ (real m c) (fun t e => score_eq m c hx hw hb t e) i]
  refine (scalar_read _ i).trans ((importanceOut_row (chunk m c)).trans ?_)
  rw [rows_eq m c hx hw hb]

theorem overflow_equal : shapeCast S_ (overflowOut (F := Ideal) (cntUpTo (chunk m c) 256)) shapeCasts_S1x1_S_
    = Cert.ReferenceIdeal.Read.val_main_v105 (F := Ideal) (argX m c) (argW m c) (argB m c) := by
  funext i
  rw [Cert.ReferenceIdeal.Queue.v105_at _ _ _ (fun t => reals (real m c t))
    (Cert.ReferenceIdeal.Queue.indices_at _ _ _ (real m c) fun t e => score_eq m c hx hw hb t e) (fun t => bot_lt_reals _) i]
  refine (scalar_read _ i).trans ((overflowOut_row (chunk m c)).trans ?_)
  rw [rows_eq m c hx hw hb]

end Cert.KernelIdeal.Chunk

end
-- ==== Proof.lean ====
/- The proof of the claims: the three programs run and leave their arguments as they were, with every counter at zero; the mask
   constant may be read as −∞; and on finite arguments the kernel's five results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Arrays
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.SL.Sem

attribute [local instance] Cert.Finite.facts

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run m g)

theorem equal_results : Cert.algebraic_KernelIdeal_ReferenceIdeal_pre_finite := by
  intro m g m' g' hpre hargs
  have hfin := fun c => Cert.Finite.reals_of_fn _ _ _ (hpre c).1 (hpre c).2.1 (hpre c).2.2
  refine ⟨fun c => Cert.ReferenceIdeal.Read.val_main_v69 (F := Ideal) (Cert.KernelIdeal.Chunk.argX m c) (Cert.KernelIdeal.Chunk.argW m c) (Cert.KernelIdeal.Chunk.argB m c),
    fun c => Cert.ReferenceIdeal.Read.val_main_v71 (F := Ideal) (Cert.KernelIdeal.Chunk.argX m c) (Cert.KernelIdeal.Chunk.argW m c) (Cert.KernelIdeal.Chunk.argB m c),
    fun c => Cert.ReferenceIdeal.Read.val_main_v93 (F := Ideal) (Cert.KernelIdeal.Chunk.argX m c) (Cert.KernelIdeal.Chunk.argW m c) (Cert.KernelIdeal.Chunk.argB m c),
    fun c => Cert.ReferenceIdeal.Read.val_main_v101 (F := Ideal) (Cert.KernelIdeal.Chunk.argX m c) (Cert.KernelIdeal.Chunk.argW m c) (Cert.KernelIdeal.Chunk.argB m c),
    fun c => Cert.ReferenceIdeal.Read.val_main_v105 (F := Ideal) (Cert.KernelIdeal.Chunk.argX m c) (Cert.KernelIdeal.Chunk.argW m c) (Cert.KernelIdeal.Chunk.argB m c),
    (θ_run Cert.KernelIdeal.defs _ _).mono (fun r h c => ?_) (Cert.KernelIdeal.Chunk.run m g),
    (θ_run Cert.ReferenceIdeal.defs _ _).mono (fun r h c => ?_) (Cert.ReferenceIdeal.Value.run m' g')⟩
  · obtain ⟨hx, hw, hb⟩ := hfin c
    exact ⟨(h c).1.trans (Cert.KernelIdeal.Chunk.experts_equal m c hx hw hb),
      (h c).2.1.trans (Cert.KernelIdeal.Chunk.weights_equal m c hx hw hb),
      (h c).2.2.1.trans (Cert.KernelIdeal.Chunk.loadLoss_equal m c hx hw hb),
      (h c).2.2.2.1.trans (Cert.KernelIdeal.Chunk.importanceLoss_equal m c hx hw hb),
      (h c).2.2.2.2.1.trans (Cert.KernelIdeal.Chunk.overflow_equal m c hx hw hb),
      (h c).2.2.2.2.2⟩
  · obtain ⟨e0, e1, e2⟩ := hargs c
    have a0 : StableHlo.launchContents m' c (Proc.devRef .tc Cert.ReferenceIdeal.main_arg0) = Cert.KernelIdeal.Chunk.argX m c := e0
    have a1 : StableHlo.launchContents m' c (Proc.devRef .tc Cert.ReferenceIdeal.main_arg1) = Cert.KernelIdeal.Chunk.argW m c := e1
    have a2 : StableHlo.launchContents m' c (Proc.devRef .tc Cert.ReferenceIdeal.main_arg2) = Cert.KernelIdeal.Chunk.argB m c := e2
    refine ⟨(h c).1.trans ((Cert.ReferenceIdeal.Read.val_main_v69_eq (StableHlo.launchContents m' c)).trans ?_),
      (h c).2.1.trans ((Cert.ReferenceIdeal.Read.val_main_v71_eq (StableHlo.launchContents m' c)).trans ?_),
      (h c).2.2.1.trans ((Cert.ReferenceIdeal.Read.val_main_v93_eq (StableHlo.launchContents m' c)).trans ?_),
      (h c).2.2.2.1.trans ((Cert.ReferenceIdeal.Read.val_main_v101_eq (StableHlo.launchContents m' c)).trans ?_),
      (h c).2.2.2.2.1.trans ((Cert.ReferenceIdeal.Read.val_main_v105_eq (StableHlo.launchContents m' c)).trans ?_),
      (h c).2.2.2.2.2⟩
    all_goals rw [a0, a1, a2]

theorem claim : Cert.Claim :=
  ⟨Cert.Kernel.Gen.facts, Cert.KernelIdeal.Gen.facts, Cert.ReferenceIdeal.Gen.facts, Cert.Finite.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement Cert.KernelIdeal.κ "mask" .f32 0xFF61B1E6#32 ⊥ rfl,
    equal_results⟩

end Cert.Proof

end
